-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_anchors_on_grid [hPre_anchors_on_grid : Cert.Pre_anchors_on_grid.Facts] (m : (ℓ : Loc Cert.KernelIdeal.nD Cert.KernelIdeal.τ Cert.KernelIdeal.sig) → Buf (Elt Ideal) ℓ) : Prop :=
  ∀ c : Dev Cert.KernelIdeal.nD,
    (Cert.Pre_anchors_on_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_anchors_on_grid [hPre_anchors_on_grid : Cert.Pre_anchors_on_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_anchors_on_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_anchors_on_grid [hKernelIdeal : Cert.KernelIdeal.Facts] [hPre_anchors_on_grid : Cert.Pre_anchors_on_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_anchors_on_grid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_anchors_on_grid [hReferenceIdeal : Cert.ReferenceIdeal.Facts] [hPre_anchors_on_grid : Cert.Pre_anchors_on_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_anchors_on_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_anchors_on_grid [hKernelIdeal : Cert.KernelIdeal.Facts] [hReferenceIdeal : Cert.ReferenceIdeal.Facts] [hPre_anchors_on_grid : Cert.Pre_anchors_on_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_anchors_on_grid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v182)) (v1 : (c : Dev Cert.KernelIdeal.nD) → Buf (Elt Ideal) ((c.tc : Thread Cert.KernelIdeal.nD Cert.KernelIdeal.τ).loc Cert.KernelIdeal.main_v185)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v182) = v0 c
          ∧ r.2.mem ((c.tc : Thread Cert.KernelIdeal.nD Cert.KernelIdeal.τ).loc Cert.KernelIdeal.main_v185) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v229) = v0 c
          ∧ r.2.mem ((c.tc : Thread Cert.ReferenceIdeal.nD Cert.ReferenceIdeal.τ).loc Cert.ReferenceIdeal.main_v227) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_anchors_on_grid : Cert.Pre_anchors_on_grid.Facts),
    quiescent_Kernel (hKernel := hKernel)
    ∧ quiescent_KernelIdeal (hKernelIdeal := hKernelIdeal)
    ∧ quiescent_KernelIdeal_pre_anchors_on_grid (hKernelIdeal := hKernelIdeal) (hPre_anchors_on_grid := hPre_anchors_on_grid)
    ∧ quiescent_ReferenceIdeal (hReferenceIdeal := hReferenceIdeal)
    ∧ quiescent_ReferenceIdeal_pre_anchors_on_grid (hReferenceIdeal := hReferenceIdeal) (hPre_anchors_on_grid := hPre_anchors_on_grid)
    ∧ preserves_Kernel_KernelIdeal
    ∧ algebraic_KernelIdeal_ReferenceIdeal_pre_anchors_on_grid (hKernelIdeal := hKernelIdeal) (hReferenceIdeal := hReferenceIdeal) (hPre_anchors_on_grid := hPre_anchors_on_grid)
-- ==== Pre_anchors_on_grid.lean ====
abbrev S1x4x128x160 : Shape := ⟨4, ![1, 4, 128, 160]⟩
abbrev S1x1x128x160 : Shape := ⟨4, ![1, 1, 128, 160]⟩
abbrev S20480x4 : Shape := ⟨2, ![20480, 4]⟩
abbrev S1x80x128x160 : Shape := ⟨4, ![1, 80, 128, 160]⟩
abbrev S20480 : Shape := ⟨1, ![20480]⟩
abbrev S_ : Shape := ⟨0, ![]⟩
abbrev S20480x1 : Shape := ⟨2, ![20480, 1]⟩

class Facts : Prop where
  bcast_S_S20480 : S_.BroadcastsInDim S20480 (![] : Fin 0 → Fin S20480.rank)
  bcast_S20480_S20480x1_0 : S20480.BroadcastsInDim S20480x1 (![0] : Fin 1 → Fin S20480x1.rank)
  concatenates_S20480x1_S20480x1_S20480x1_S20480x1_S20480x4_d1 : Shape.Concatenates [S20480x1, S20480x1, S20480x1, S20480x1] S20480x4 1

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S20480 32) (arg1 : IVec S_ 32) : IVec S20480 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S20480 32 := broadcastInDim S20480 ![] bcast_S_S20480 v2
  let v4 : IVec S20480 32 := Host.remsi arg0 v3
  let c_1 : IVec S_ 32 := constantI S_ 32 0#32
  let v5 : IVec S20480 32 := broadcastInDim S20480 ![] bcast_S_S20480 c_1
  let v6 : IVec S20480 1 := cmpi .ne v4 v5
  let c_2 : IVec S_ 32 := constantI S_ 32 0#32
  let v7 : IVec S20480 32 := broadcastInDim S20480 ![] bcast_S_S20480 c_2
  let v8 : IVec S20480 1 := cmpi .slt v4 v7
  let c_3 : IVec S_ 32 := constantI S_ 32 0#32
  let v9 : IVec S_ 1 := cmpi .slt v2 c_3
  let v10 : IVec S20480 1 := broadcastInDim S20480 ![] bcast_S_S20480 v9
  let v11 : IVec S20480 1 := cmpi .ne v8 v10
  let v12 : IVec S20480 1 := andi v11 v6
  let v13 : IVec S20480 32 := broadcastInDim S20480 ![] bcast_S_S20480 v2
  let v14 : IVec S20480 32 := addi v4 v13
  let v15 : IVec S20480 32 := select v12 v14 v4
  v15

def fn_where_0 {F : FTy → Type} [FloatOps F] (arg0 : IVec S20480 1) (arg1 : IVec S20480 32) (arg2 : IVec S20480 32) : IVec S20480 32 :=
  let v0 : IVec S20480 32 := select arg0 arg1 arg2
  v0

def fn_floor_divide {F : FTy → Type} [FloatOps F] (arg0 : IVec S20480 32) (arg1 : IVec S_ 32) : IVec S20480 32 :=
  let v0 : IVec S_ 32 := id arg1
  let v1 : IVec S20480 32 := broadcastInDim S20480 ![] bcast_S_S20480 v0
  let v2 : IVec S20480 32 := Host.divsi arg0 v1
  let v3 : IVec S20480 32 := signi arg0
  let v4 : IVec S_ 32 := signi v0
  let v5 : IVec S20480 32 := broadcastInDim S20480 ![] bcast_S_S20480 v4
  let v6 : IVec S20480 1 := cmpi .ne v3 v5
  let v7 : IVec S20480 32 := broadcastInDim S20480 ![] bcast_S_S20480 v0
  let v8 : IVec S20480 32 := Host.remsi arg0 v7
  let c : IVec S_ 32 := constantI S_ 32 0#32
  let v9 : IVec S20480 32 := broadcastInDim S20480 ![] bcast_S_S20480 c
  let v10 : IVec S20480 1 := cmpi .ne v8 v9
  let v11 : IVec S20480 1 := andi v6 v10
  let c_0 : IVec S_ 32 := constantI S_ 32 1#32
  let v12 : IVec S20480 32 := broadcastInDim S20480 ![] bcast_S_S20480 c_0
  let v13 : IVec S20480 32 := subi v2 v12
  let v14 : IVec S20480 32 := fn_where_0 (F := F) v11 v13 v2
  v14

def fn_part1 {F : FTy → Type} [FloatOps F] (main_arg2 : FVec F S20480x4 .f32) (main_v6 : FVec F S20480 .f32) (main_v12 : FVec F S20480 .f32) (main_v14 : FVec F S20480 .f32) (main_v15 : FVec F S20480 .f32) : IVec S20480x4 1 :=
  let main_v16 : FVec F S20480 .f32 := subf main_v12 main_v15
  let main_cst_6 : FVec F S_ .f32 := constant S_ .f32 0x42000000#32
  let main_v17 : FVec F S20480 .f32 := broadcastInDim S20480 ![] bcast_S_S20480 main_cst_6
  let main_v18 : FVec F S20480 .f32 := addf main_v6 main_v17
  let main_cst_7 : FVec F S_ .f32 := constant S_ .f32 0x42000000#32
  let main_v19 : FVec F S20480 .f32 := broadcastInDim S20480 ![] bcast_S_S20480 main_cst_7
  let main_v20 : FVec F S20480 .f32 := addf main_v12 main_v19
  let main_v21 : FVec F S20480x1 .f32 := broadcastInDim S20480x1 ![0] bcast_S20480_S20480x1_0 main_v14
  let main_v22 : FVec F S20480x1 .f32 := broadcastInDim S20480x1 ![0] bcast_S20480_S20480x1_0 main_v16
  let main_v23 : FVec F S20480x1 .f32 := broadcastInDim S20480x1 ![0] bcast_S20480_S20480x1_0 main_v18
  let main_v24 : FVec F S20480x1 .f32 := broadcastInDim S20480x1 ![0] bcast_S20480_S20480x1_0 main_v20
  let main_v25 : FVec F S20480x4 .f32 := concatenate S20480x4 1 [⟨S20480x1, main_v21⟩, ⟨S20480x1, main_v22⟩, ⟨S20480x1, main_v23⟩, ⟨S20480x1, main_v24⟩] concatenates_S20480x1_S20480x1_S20480x1_S20480x1_S20480x4_d1
  let main_v26 : IVec S20480x4 1 := cmpf .oeq main_arg2 main_v25
  main_v26

def fn {F : FTy → Type} [FloatOps F] (main_arg0 : FVec F S1x4x128x160 .f32) (main_arg1 : FVec F S1x1x128x160 .f32) (main_arg2 : FVec F S20480x4 .f32) (main_arg3 : FVec F S1x80x128x160 .f32) : IVec S20480x4 1 :=
  let main_v0 : IVec S20480 32 := iotaInDim S20480 32 0
  let main_c : IVec S_ 32 := constantI S_ 32 160#32
  let main_v1 : IVec S20480 32 := fn_remainder (F := F) main_v0 main_c
  let main_v2 : FVec F S20480 .f32 := sitofp .f32 main_v1
  let main_cst : FVec F S_ .f32 := constant S_ .f32 0x41000000#32
  let main_v3 : FVec F S20480 .f32 := broadcastInDim S20480 ![] bcast_S_S20480 main_cst
  let main_v4 : FVec F S20480 .f32 := mulf main_v2 main_v3
  let main_cst_0 : FVec F S_ .f32 := constant S_ .f32 0x40800000#32
  let main_v5 : FVec F S20480 .f32 := broadcastInDim S20480 ![] bcast_S_S20480 main_cst_0
  let main_v6 : FVec F S20480 .f32 := addf main_v4 main_v5
  let main_c_1 : IVec S_ 32 := constantI S_ 32 160#32
  let main_v7 : IVec S20480 32 := fn_floor_divide (F := F) main_v0 main_c_1
  let main_v8 : FVec F S20480 .f32 := sitofp .f32 main_v7
  let main_cst_2 : FVec F S_ .f32 := constant S_ .f32 0x41000000#32
  let main_v9 : FVec F S20480 .f32 := broadcastInDim S20480 ![] bcast_S_S20480 main_cst_2
  let main_v10 : FVec F S20480 .f32 := mulf main_v8 main_v9
  let main_cst_3 : FVec F S_ .f32 := constant S_ .f32 0x40800000#32
  let main_v11 : FVec F S20480 .f32 := broadcastInDim S20480 ![] bcast_S_S20480 main_cst_3
  let main_v12 : FVec F S20480 .f32 := addf main_v10 main_v11
  let main_cst_4 : FVec F S_ .f32 := constant S_ .f32 0x42000000#32
  let main_v13 : FVec F S20480 .f32 := broadcastInDim S20480 ![] bcast_S_S20480 main_cst_4
  let main_v14 : FVec F S20480 .f32 := subf main_v6 main_v13
  let main_cst_5 : FVec F S_ .f32 := constant S_ .f32 0x42000000#32
  let main_v15 : FVec F S20480 .f32 := broadcastInDim S20480 ![] bcast_S_S20480 main_cst_5
  fn_part1 (F := F) main_arg2 main_v6 main_v12 main_v14 main_v15
-- ==== Kernel.lean ====
abbrev S1x4x128x160 : Shape := ⟨4, ![1, 4, 128, 160]⟩
abbrev S1x1x128x160 : Shape := ⟨4, ![1, 1, 128, 160]⟩
abbrev S20480x4 : Shape := ⟨2, ![20480, 4]⟩
abbrev S1x80x128x160 : Shape := ⟨4, ![1, 80, 128, 160]⟩
abbrev S80x20480 : Shape := ⟨2, ![80, 20480]⟩
abbrev S1x20480 : Shape := ⟨2, ![1, 20480]⟩
abbrev S80x1000 : Shape := ⟨2, ![80, 1000]⟩
abbrev S_ : Shape := ⟨0, ![]⟩
abbrev S80 : Shape := ⟨1, ![80]⟩
abbrev S80x1 : Shape := ⟨2, ![80, 1]⟩
abbrev S80000 : Shape := ⟨1, ![80000]⟩
abbrev S1000 : Shape := ⟨1, ![1000]⟩
abbrev S4x20480 : Shape := ⟨2, ![4, 20480]⟩
abbrev S1000x1 : Shape := ⟨2, ![1000, 1]⟩
abbrev S4x1000 : Shape := ⟨2, ![4, 1000]⟩
abbrev S1000x4 : Shape := ⟨2, ![1000, 4]⟩
abbrev S1024 : Shape := ⟨1, ![1024]⟩
abbrev S1024x1 : Shape := ⟨2, ![1024, 1]⟩
abbrev S1024x16 : Shape := ⟨2, ![1024, 16]⟩
abbrev S8x128 : Shape := ⟨2, ![8, 128]⟩
abbrev S100x8 : Shape := ⟨2, ![100, 8]⟩
abbrev S1x8x128 : Shape := ⟨3, ![1, 8, 128]⟩
abbrev S1 : Shape := ⟨1, ![1]⟩
abbrev S1x1x1 : Shape := ⟨3, ![1, 1, 1]⟩
abbrev S1x16 : Shape := ⟨2, ![1, 16]⟩
abbrev S1x1 : Shape := ⟨2, ![1, 1]⟩
abbrev S1x8 : Shape := ⟨2, ![1, 8]⟩
abbrev S100x5 : Shape := ⟨2, ![100, 5]⟩
abbrev S100x1 : Shape := ⟨2, ![100, 1]⟩
abbrev S100 : Shape := ⟨1, ![100]⟩

abbrev nBuf : Space → Nat
  | .hbm => 375
  | .vmem => 11
  | .smem => 0
  | _ => 0

abbrev hbmTy0_0 (i : Nat) : BufTy := match i % 128 with
  | 0 => ⟨S1x4x128x160, .f32⟩
  | 1 => ⟨S1x1x128x160, .f32⟩
  | 2 => ⟨S20480x4, .f32⟩
  | 3 => ⟨S1x80x128x160, .f32⟩
  | 4 => ⟨S80x20480, .f32⟩
  | 5 => ⟨S1x20480, .f32⟩
  | 6 => ⟨S80x20480, .f32⟩
  | 7 => ⟨S80x1000, .f32⟩
  | 8 => ⟨S80x1000, .i32⟩
  | 9 => ⟨S_, .i32⟩
  | 10 => ⟨S80x1000, .i32⟩
  | 11 => ⟨S80x1000, .i32⟩
  | 12 => ⟨S80, .i32⟩
  | 13 => ⟨S80x1, .i32⟩
  | 14 => ⟨S80x1000, .i32⟩
  | 15 => ⟨S80x1000, .i32⟩
  | 16 => ⟨S80000, .f32⟩
  | 17 => ⟨S80000, .f32⟩
  | 18 => ⟨S80000, .i32⟩
  | 19 => ⟨S80000, .f32⟩
  | 20 => ⟨S80000, .i32⟩
  | 21 => ⟨S1000, .f32⟩
  | 22 => ⟨S1000, .f32⟩
  | 23 => ⟨S1000, .i32⟩
  | 24 => ⟨S_, .i32⟩
  | 25 => ⟨S_, .i32⟩
  | 26 => ⟨S1000, .i32⟩
  | 27 => ⟨S1000, .i32⟩
  | 28 => ⟨S1000, .i32⟩
  | 29 => ⟨S_, .i32⟩
  | 30 => ⟨S1000, .i32⟩
  | 31 => ⟨S1000, .i1⟩
  | 32 => ⟨S1000, .i32⟩
  | 33 => ⟨S1000, .i32⟩
  | 34 => ⟨S_, .i32⟩
  | 35 => ⟨S1000, .i32⟩
  | 36 => ⟨S1000, .i1⟩
  | 37 => ⟨S1000, .i1⟩
  | 38 => ⟨S_, .i32⟩
  | 39 => ⟨S1000, .i32⟩
  | 40 => ⟨S1000, .i32⟩
  | 41 => ⟨S1000, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S1000, .i32⟩
  | 49 => ⟨S1000, .i32⟩
  | 50 => ⟨S_, .i32⟩
  | 51 => ⟨S1000, .i32⟩
  | 52 => ⟨S1000, .i1⟩
  | 53 => ⟨S_, .i32⟩
  | 54 => ⟨S1000, .i32⟩
  | 55 => ⟨S1000, .i1⟩
  | 56 => ⟨S_, .i32⟩
  | 57 => ⟨S_, .i1⟩
  | 58 => ⟨S1000, .i1⟩
  | 59 => ⟨S1000, .i1⟩
  | 60 => ⟨S1000, .i1⟩
  | 61 => ⟨S1000, .i32⟩
  | 62 => ⟨S1000, .i32⟩
  | 63 => ⟨S1000, .i32⟩
  | 64 => ⟨S_, .i32⟩
  | 65 => ⟨S1000, .i32⟩
  | 66 => ⟨S1000, .i32⟩
  | 67 => ⟨S4x20480, .f32⟩
  | 68 => ⟨S_, .i32⟩
  | 69 => ⟨S1000, .i32⟩
  | 70 => ⟨S1000, .i1⟩
  | 71 => ⟨S_, .i32⟩
  | 72 => ⟨S1000, .i32⟩
  | 73 => ⟨S1000, .i32⟩
  | 74 => ⟨S1000, .i32⟩
  | 75 => ⟨S1000x1, .i32⟩
  | 76 => ⟨S4x1000, .f32⟩
  | 77 => ⟨S1000x4, .f32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S1000, .i32⟩
  | 85 => ⟨S1000, .i32⟩
  | 86 => ⟨S_, .i32⟩
  | 87 => ⟨S1000, .i32⟩
  | 88 => ⟨S1000, .i1⟩
  | 89 => ⟨S_, .i32⟩
  | 90 => ⟨S1000, .i32⟩
  | 91 => ⟨S1000, .i1⟩
  | 92 => ⟨S_, .i32⟩
  | 93 => ⟨S_, .i1⟩
  | 94 => ⟨S1000, .i1⟩
  | 95 => ⟨S1000, .i1⟩
  | 96 => ⟨S1000, .i1⟩
  | 97 => ⟨S1000, .i32⟩
  | 98 => ⟨S1000, .i32⟩
  | 99 => ⟨S1000, .i32⟩
  | 100 => ⟨S1000, .f32⟩
  | 101 => ⟨S_, .i32⟩
  | 102 => ⟨S_, .i32⟩
  | 103 => ⟨S1000, .i32⟩
  | 104 => ⟨S1000, .i32⟩
  | 105 => ⟨S1000, .i32⟩
  | 106 => ⟨S_, .i32⟩
  | 107 => ⟨S1000, .i32⟩
  | 108 => ⟨S1000, .i1⟩
  | 109 => ⟨S1000, .i32⟩
  | 110 => ⟨S1000, .i32⟩
  | 111 => ⟨S_, .i32⟩
  | 112 => ⟨S1000, .i32⟩
  | 113 => ⟨S1000, .i1⟩
  | 114 => ⟨S1000, .i1⟩
  | 115 => ⟨S_, .i32⟩
  | 116 => ⟨S1000, .i32⟩
  | 117 => ⟨S1000, .i32⟩
  | 118 => ⟨S1000, .i32⟩
  | 119 => ⟨S1000, .f32⟩
  | 120 => ⟨S_, .f32⟩
  | 121 => ⟨S1000, .f32⟩
  | 122 => ⟨S1000, .f32⟩
  | 123 => ⟨S_, .f32⟩
  | 124 => ⟨S1000, .f32⟩
  | 125 => ⟨S1000, .f32⟩
  | 126 => ⟨S_, .f32⟩
  | 127 => ⟨S_, .f32⟩
  | _ => ⟨S1x4x128x160, .f32⟩

abbrev hbmTy0_1 (i : Nat) : BufTy := match i % 128 with
  | 0 => ⟨S_, .f32⟩
  | 1 => ⟨S1000, .f32⟩
  | 2 => ⟨S1000, .f32⟩
  | 3 => ⟨S_, .f32⟩
  | 4 => ⟨S1000, .f32⟩
  | 5 => ⟨S1000, .f32⟩
  | 6 => ⟨S_, .f32⟩
  | 7 => ⟨S1000, .f32⟩
  | 8 => ⟨S1000, .f32⟩
  | 9 => ⟨S_, .f32⟩
  | 10 => ⟨S_, .f32⟩
  | 11 => ⟨S_, .f32⟩
  | 12 => ⟨S1000, .f32⟩
  | 13 => ⟨S1000, .f32⟩
  | 14 => ⟨S1000x1, .f32⟩
  | 15 => ⟨S1000, .f32⟩
  | 16 => ⟨S_, .f32⟩
  | 17 => ⟨S1000, .f32⟩
  | 18 => ⟨S1000, .f32⟩
  | 19 => ⟨S1000x1, .f32⟩
  | 20 => ⟨S1000, .f32⟩
  | 21 => ⟨S_, .f32⟩
  | 22 => ⟨S1000, .f32⟩
  | 23 => ⟨S1000, .f32⟩
  | 24 => ⟨S1000x1, .f32⟩
  | 25 => ⟨S1000, .f32⟩
  | 26 => ⟨S_, .f32⟩
  | 27 => ⟨S1000, .f32⟩
  | 28 => ⟨S1000, .f32⟩
  | 29 => ⟨S_, .f32⟩
  | 30 => ⟨S1000, .f32⟩
  | 31 => ⟨S1000, .f32⟩
  | 32 => ⟨S1000x1, .f32⟩
  | 33 => ⟨S1000, .f32⟩
  | 34 => ⟨S_, .f32⟩
  | 35 => ⟨S1000, .f32⟩
  | 36 => ⟨S1000, .f32⟩
  | 37 => ⟨S_, .f32⟩
  | 38 => ⟨S1000, .f32⟩
  | 39 => ⟨S1000, .f32⟩
  | 40 => ⟨S_, .f32⟩
  | 41 => ⟨S1000, .f32⟩
  | 42 => ⟨S1000, .f32⟩
  | 43 => ⟨S1000, .f32⟩
  | 44 => ⟨S_, .f32⟩
  | 45 => ⟨S1000, .f32⟩
  | 46 => ⟨S1000, .f32⟩
  | 47 => ⟨S1000, .f32⟩
  | 48 => ⟨S1000, .f32⟩
  | 49 => ⟨S_, .f32⟩
  | 50 => ⟨S1000, .f32⟩
  | 51 => ⟨S1000, .f32⟩
  | 52 => ⟨S1000, .f32⟩
  | 53 => ⟨S_, .f32⟩
  | 54 => ⟨S1000, .f32⟩
  | 55 => ⟨S1000, .f32⟩
  | 56 => ⟨S_, .f32⟩
  | 57 => ⟨S1000, .f32⟩
  | 58 => ⟨S1000, .f32⟩
  | 59 => ⟨S_, .f32⟩
  | 60 => ⟨S1000, .f32⟩
  | 61 => ⟨S1000, .f32⟩
  | 62 => ⟨S1000, .f32⟩
  | 63 => ⟨S_, .f32⟩
  | 64 => ⟨S_, .f32⟩
  | 65 => ⟨S_, .f32⟩
  | 66 => ⟨S1000, .f32⟩
  | 67 => ⟨S1000, .f32⟩
  | 68 => ⟨S_, .f32⟩
  | 69 => ⟨S1000, .f32⟩
  | 70 => ⟨S1000, .f32⟩
  | 71 => ⟨S_, .f32⟩
  | 72 => ⟨S1000, .f32⟩
  | 73 => ⟨S1000, .f32⟩
  | 74 => ⟨S_, .f32⟩
  | 75 => ⟨S1000, .f32⟩
  | 76 => ⟨S1000, .f32⟩
  | 77 => ⟨S1000, .f32⟩
  | 78 => ⟨S_, .f32⟩
  | 79 => ⟨S_, .f32⟩
  | 80 => ⟨S_, .f32⟩
  | 81 => ⟨S1000, .f32⟩
  | 82 => ⟨S1000, .f32⟩
  | 83 => ⟨S_, .f32⟩
  | 84 => ⟨S1000, .f32⟩
  | 85 => ⟨S1000, .f32⟩
  | 86 => ⟨S_, .f32⟩
  | 87 => ⟨S1000, .f32⟩
  | 88 => ⟨S1000, .f32⟩
  | 89 => ⟨S_, .f32⟩
  | 90 => ⟨S1000, .f32⟩
  | 91 => ⟨S1000, .f32⟩
  | 92 => ⟨S1000, .f32⟩
  | 93 => ⟨S_, .f32⟩
  | 94 => ⟨S_, .f32⟩
  | 95 => ⟨S_, .f32⟩
  | 96 => ⟨S1000, .f32⟩
  | 97 => ⟨S1000, .f32⟩
  | 98 => ⟨S_, .f32⟩
  | 99 => ⟨S1000, .f32⟩
  | 100 => ⟨S1000, .f32⟩
  | 101 => ⟨S_, .f32⟩
  | 102 => ⟨S1000, .f32⟩
  | 103 => ⟨S1000, .f32⟩
  | 104 => ⟨S_, .f32⟩
  | 105 => ⟨S1000, .f32⟩
  | 106 => ⟨S1000, .f32⟩
  | 107 => ⟨S1000, .f32⟩
  | 108 => ⟨S_, .f32⟩
  | 109 => ⟨S_, .f32⟩
  | 110 => ⟨S_, .f32⟩
  | 111 => ⟨S1000, .f32⟩
  | 112 => ⟨S1000, .f32⟩
  | 113 => ⟨S_, .f32⟩
  | 114 => ⟨S1000, .f32⟩
  | 115 => ⟨S1000, .f32⟩
  | 116 => ⟨S_, .f32⟩
  | 117 => ⟨S1000, .f32⟩
  | 118 => ⟨S1000, .i1⟩
  | 119 => ⟨S1000, .f32⟩
  | 120 => ⟨S_, .f32⟩
  | 121 => ⟨S1000, .f32⟩
  | 122 => ⟨S1000, .f32⟩
  | 123 => ⟨S_, .f32⟩
  | 124 => ⟨S1000, .f32⟩
  | 125 => ⟨S1000, .i1⟩
  | 126 => ⟨S1000, .i1⟩
  | 127 => ⟨S1000, .f32⟩
  | _ => ⟨S1x4x128x160, .f32⟩

abbrev hbmTy0_2 (i : Nat) : BufTy := match i % 128 with
  | 0 => ⟨S_, .f32⟩
  | 1 => ⟨S1000, .f32⟩
  | 2 => ⟨S1000, .f32⟩
  | 3 => ⟨S_, .f32⟩
  | 4 => ⟨S1000, .f32⟩
  | 5 => ⟨S1000, .i1⟩
  | 6 => ⟨S1000, .i1⟩
  | 7 => ⟨S_, .f32⟩
  | 8 => ⟨S1000, .f32⟩
  | 9 => ⟨S1000, .f32⟩
  | 10 => ⟨S1000, .f32⟩
  | 11 => ⟨S1000, .f32⟩
  | 12 => ⟨S_, .f32⟩
  | 13 => ⟨S1000, .f32⟩
  | 14 => ⟨S1000, .f32⟩
  | 15 => ⟨S1000, .f32⟩
  | 16 => ⟨S1000, .f32⟩
  | 17 => ⟨S1000, .f32⟩
  | 18 => ⟨S1000, .f32⟩
  | 19 => ⟨S1000, .f32⟩
  | 20 => ⟨S_, .f32⟩
  | 21 => ⟨S1000, .f32⟩
  | 22 => ⟨S1000, .f32⟩
  | 23 => ⟨S1000, .f32⟩
  | 24 => ⟨S_, .f32⟩
  | 25 => ⟨S1000, .f32⟩
  | 26 => ⟨S1000, .f32⟩
  | 27 => ⟨S1000, .f32⟩
  | 28 => ⟨S_, .f32⟩
  | 29 => ⟨S_, .f32⟩
  | 30 => ⟨S1024, .f32⟩
  | 31 => ⟨S_, .f32⟩
  | 32 => ⟨S_, .f32⟩
  | 33 => ⟨S1024, .f32⟩
  | 34 => ⟨S_, .f32⟩
  | 35 => ⟨S_, .f32⟩
  | 36 => ⟨S1024, .f32⟩
  | 37 => ⟨S_, .f32⟩
  | 38 => ⟨S_, .f32⟩
  | 39 => ⟨S1024, .f32⟩
  | 40 => ⟨S_, .f32⟩
  | 41 => ⟨S_, .f32⟩
  | 42 => ⟨S1024, .f32⟩
  | 43 => ⟨S_, .f32⟩
  | 44 => ⟨S_, .f32⟩
  | 45 => ⟨S1024, .f32⟩
  | 46 => ⟨S_, .f32⟩
  | 47 => ⟨S_, .f32⟩
  | 48 => ⟨S1024, .f32⟩
  | 49 => ⟨S_, .f32⟩
  | 50 => ⟨S_, .f32⟩
  | 51 => ⟨S1024, .f32⟩
  | 52 => ⟨S_, .f32⟩
  | 53 => ⟨S_, .f32⟩
  | 54 => ⟨S1024, .f32⟩
  | 55 => ⟨S_, .f32⟩
  | 56 => ⟨S_, .f32⟩
  | 57 => ⟨S1024, .f32⟩
  | 58 => ⟨S1000, .f32⟩
  | 59 => ⟨S_, .f32⟩
  | 60 => ⟨S_, .f32⟩
  | 61 => ⟨S1024, .f32⟩
  | 62 => ⟨S_, .f32⟩
  | 63 => ⟨S1024, .f32⟩
  | 64 => ⟨S_, .f32⟩
  | 65 => ⟨S1024, .f32⟩
  | 66 => ⟨S_, .f32⟩
  | 67 => ⟨S1024, .f32⟩
  | 68 => ⟨S_, .f32⟩
  | 69 => ⟨S1024, .f32⟩
  | 70 => ⟨S_, .f32⟩
  | 71 => ⟨S1024, .f32⟩
  | 72 => ⟨S1024x1, .f32⟩
  | 73 => ⟨S1024x1, .f32⟩
  | 74 => ⟨S1024x1, .f32⟩
  | 75 => ⟨S1024x1, .f32⟩
  | 76 => ⟨S1024x1, .f32⟩
  | 77 => ⟨S1024x1, .f32⟩
  | 78 => ⟨S1024x1, .f32⟩
  | 79 => ⟨S1024x1, .f32⟩
  | 80 => ⟨S1024x1, .f32⟩
  | 81 => ⟨S1024x1, .f32⟩
  | 82 => ⟨S1024x1, .f32⟩
  | 83 => ⟨S1024x1, .f32⟩
  | 84 => ⟨S1024x1, .f32⟩
  | 85 => ⟨S1024x1, .f32⟩
  | 86 => ⟨S1024x1, .f32⟩
  | 87 => ⟨S1024x1, .f32⟩
  | 88 => ⟨S1024x16, .f32⟩
  | 89 => ⟨S_, .f32⟩
  | 90 => ⟨S_, .f32⟩
  | 91 => ⟨S1024, .f32⟩
  | 92 => ⟨S8x128, .f32⟩
  | 93 => ⟨S_, .f32⟩
  | 94 => ⟨S_, .f32⟩
  | 95 => ⟨S1024, .f32⟩
  | 96 => ⟨S8x128, .f32⟩
  | 97 => ⟨S_, .f32⟩
  | 98 => ⟨S_, .f32⟩
  | 99 => ⟨S1024, .f32⟩
  | 100 => ⟨S8x128, .f32⟩
  | 101 => ⟨S_, .f32⟩
  | 102 => ⟨S_, .f32⟩
  | 103 => ⟨S1024, .f32⟩
  | 104 => ⟨S8x128, .f32⟩
  | 105 => ⟨S_, .f32⟩
  | 106 => ⟨S_, .f32⟩
  | 107 => ⟨S1024, .f32⟩
  | 108 => ⟨S8x128, .f32⟩
  | 109 => ⟨S1000, .f32⟩
  | 110 => ⟨S_, .f32⟩
  | 111 => ⟨S_, .f32⟩
  | 112 => ⟨S1024, .f32⟩
  | 113 => ⟨S8x128, .f32⟩
  | 114 => ⟨S100x8, .f32⟩
  | 115 => ⟨S100x5, .f32⟩
  | 116 => ⟨S100x1, .f32⟩
  | 117 => ⟨S100, .f32⟩
  | 118 => ⟨S100, .i32⟩
  | _ => ⟨S1x4x128x160, .f32⟩

abbrev hbmTy (i : Nat) : BufTy := match i / 128 with
  | 0 => hbmTy0_0 i
  | 1 => hbmTy0_1 i
  | 2 => hbmTy0_2 i
  | _ => ⟨S1x4x128x160, .f32⟩

abbrev bufTy : (tb : Table) → Fin (tcTables nBuf tb) → BufTy
  | .hbm, ⟨i, _⟩ => hbmTy i
  | .local _ .vmem, ⟨0, _⟩ => ⟨S80x20480, .f32⟩
  | .local _ .vmem, ⟨1, _⟩ => ⟨S1x20480, .f32⟩
  | .local _ .vmem, ⟨2, _⟩ => ⟨S80x20480, .f32⟩
  | .local _ .vmem, ⟨3, _⟩ => ⟨S1024x16, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S100x8, .f32⟩
  | _, _ => ⟨S1x4x128x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_values : Ref sig .tc := ⟨.hbm, 7, rfl⟩
abbrev main_indices : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v16 : Ref sig .tc := ⟨.hbm, 41, rfl⟩
abbrev main_c_1 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_1 : Ref sig .tc := ⟨.hbm, 50, rfl⟩
abbrev main_call1_v5 : Ref sig .tc := ⟨.hbm, 51, rfl⟩
abbrev main_call1_v6 : Ref sig .tc := ⟨.hbm, 52, rfl⟩
abbrev main_call1_c_2 : Ref sig .tc := ⟨.hbm, 53, rfl⟩
abbrev main_call1_v7 : Ref sig .tc := ⟨.hbm, 54, rfl⟩
abbrev main_call1_v8 : Ref sig .tc := ⟨.hbm, 55, rfl⟩
abbrev main_call1_c_3 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_v17 : Ref sig .tc := ⟨.hbm, 63, rfl⟩
abbrev main_c_2 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_c_3 : Ref sig .tc := ⟨.hbm, 68, rfl⟩
abbrev main_v21 : Ref sig .tc := ⟨.hbm, 69, rfl⟩
abbrev main_v22 : Ref sig .tc := ⟨.hbm, 70, rfl⟩
abbrev main_c_4 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_c_5 : Ref sig .tc := ⟨.hbm, 78, rfl⟩
abbrev main_call2_v0 : Ref sig .tc := ⟨.hbm, 79, rfl⟩
abbrev main_call2_c : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_c_1 : Ref sig .tc := ⟨.hbm, 86, rfl⟩
abbrev main_call2_v5 : Ref sig .tc := ⟨.hbm, 87, rfl⟩
abbrev main_call2_v6 : Ref sig .tc := ⟨.hbm, 88, rfl⟩
abbrev main_call2_c_2 : Ref sig .tc := ⟨.hbm, 89, rfl⟩
abbrev main_call2_v7 : Ref sig .tc := ⟨.hbm, 90, rfl⟩
abbrev main_call2_v8 : Ref sig .tc := ⟨.hbm, 91, rfl⟩
abbrev main_call2_c_3 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_v12 : Ref sig .tc := ⟨.hbm, 96, rfl⟩
abbrev main_call2_v13 : Ref sig .tc := ⟨.hbm, 97, rfl⟩
abbrev main_call2_v14 : Ref sig .tc := ⟨.hbm, 98, rfl⟩
abbrev main_v29 : Ref sig .tc := ⟨.hbm, 99, rfl⟩
abbrev main_v30 : Ref sig .tc := ⟨.hbm, 100, rfl⟩
abbrev main_c_6 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_v6 : Ref sig .tc := ⟨.hbm, 108, rfl⟩
abbrev main_call3_v7 : Ref sig .tc := ⟨.hbm, 109, rfl⟩
abbrev main_call3_v8 : Ref sig .tc := ⟨.hbm, 110, rfl⟩
abbrev main_call3_c : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_call3_c_0 : Ref sig .tc := ⟨.hbm, 115, rfl⟩
abbrev main_call3_v12 : Ref sig .tc := ⟨.hbm, 116, rfl⟩
abbrev main_call3_v13 : Ref sig .tc := ⟨.hbm, 117, rfl⟩
abbrev main_v31 : Ref sig .tc := ⟨.hbm, 118, rfl⟩
abbrev main_v32 : Ref sig .tc := ⟨.hbm, 119, rfl⟩
abbrev main_cst : Ref sig .tc := ⟨.hbm, 120, rfl⟩
abbrev main_v33 : Ref sig .tc := ⟨.hbm, 121, rfl⟩
abbrev main_v34 : Ref sig .tc := ⟨.hbm, 122, rfl⟩
abbrev main_cst_7 : Ref sig .tc := ⟨.hbm, 123, rfl⟩
abbrev main_v35 : Ref sig .tc := ⟨.hbm, 124, rfl⟩
abbrev main_v36 : Ref sig .tc := ⟨.hbm, 125, rfl⟩
abbrev main_cst_8 : Ref sig .tc := ⟨.hbm, 126, rfl⟩
abbrev main_cst_9 : Ref sig .tc := ⟨.hbm, 127, rfl⟩
abbrev main_v37 : Ref sig .tc := ⟨.hbm, 128, rfl⟩
abbrev main_v38 : Ref sig .tc := ⟨.hbm, 129, rfl⟩
abbrev main_v39 : Ref sig .tc := ⟨.hbm, 130, rfl⟩
abbrev main_cst_10 : Ref sig .tc := ⟨.hbm, 131, rfl⟩
abbrev main_v40 : Ref sig .tc := ⟨.hbm, 132, rfl⟩
abbrev main_v41 : Ref sig .tc := ⟨.hbm, 133, rfl⟩
abbrev main_cst_11 : Ref sig .tc := ⟨.hbm, 134, rfl⟩
abbrev main_v42 : Ref sig .tc := ⟨.hbm, 135, rfl⟩
abbrev main_v43 : Ref sig .tc := ⟨.hbm, 136, rfl⟩
abbrev main_cst_12 : Ref sig .tc := ⟨.hbm, 137, rfl⟩
abbrev main_cst_13 : Ref sig .tc := ⟨.hbm, 138, rfl⟩
abbrev main_v44 : Ref sig .tc := ⟨.hbm, 139, rfl⟩
abbrev main_v45 : Ref sig .tc := ⟨.hbm, 140, rfl⟩
abbrev main_v46 : Ref sig .tc := ⟨.hbm, 141, rfl⟩
abbrev main_v47 : Ref sig .tc := ⟨.hbm, 142, rfl⟩
abbrev main_v48 : Ref sig .tc := ⟨.hbm, 143, rfl⟩
abbrev main_cst_14 : Ref sig .tc := ⟨.hbm, 144, rfl⟩
abbrev main_v49 : Ref sig .tc := ⟨.hbm, 145, rfl⟩
abbrev main_v50 : Ref sig .tc := ⟨.hbm, 146, rfl⟩
abbrev main_v51 : Ref sig .tc := ⟨.hbm, 147, rfl⟩
abbrev main_v52 : Ref sig .tc := ⟨.hbm, 148, rfl⟩
abbrev main_cst_15 : Ref sig .tc := ⟨.hbm, 149, rfl⟩
abbrev main_v53 : Ref sig .tc := ⟨.hbm, 150, rfl⟩
abbrev main_v54 : Ref sig .tc := ⟨.hbm, 151, rfl⟩
abbrev main_v55 : Ref sig .tc := ⟨.hbm, 152, rfl⟩
abbrev main_v56 : Ref sig .tc := ⟨.hbm, 153, rfl⟩
abbrev main_cst_16 : Ref sig .tc := ⟨.hbm, 154, rfl⟩
abbrev main_v57 : Ref sig .tc := ⟨.hbm, 155, rfl⟩
abbrev main_v58 : Ref sig .tc := ⟨.hbm, 156, rfl⟩
abbrev main_cst_17 : Ref sig .tc := ⟨.hbm, 157, rfl⟩
abbrev main_v59 : Ref sig .tc := ⟨.hbm, 158, rfl⟩
abbrev main_v60 : Ref sig .tc := ⟨.hbm, 159, rfl⟩
abbrev main_v61 : Ref sig .tc := ⟨.hbm, 160, rfl⟩
abbrev main_v62 : Ref sig .tc := ⟨.hbm, 161, rfl⟩
abbrev main_cst_18 : Ref sig .tc := ⟨.hbm, 162, rfl⟩
abbrev main_v63 : Ref sig .tc := ⟨.hbm, 163, rfl⟩
abbrev main_v64 : Ref sig .tc := ⟨.hbm, 164, rfl⟩
abbrev main_cst_19 : Ref sig .tc := ⟨.hbm, 165, rfl⟩
abbrev main_v65 : Ref sig .tc := ⟨.hbm, 166, rfl⟩
abbrev main_v66 : Ref sig .tc := ⟨.hbm, 167, rfl⟩
abbrev main_cst_20 : Ref sig .tc := ⟨.hbm, 168, rfl⟩
abbrev main_v67 : Ref sig .tc := ⟨.hbm, 169, rfl⟩
abbrev main_v68 : Ref sig .tc := ⟨.hbm, 170, rfl⟩
abbrev main_v69 : Ref sig .tc := ⟨.hbm, 171, rfl⟩
abbrev main_cst_21 : Ref sig .tc := ⟨.hbm, 172, rfl⟩
abbrev main_v70 : Ref sig .tc := ⟨.hbm, 173, rfl⟩
abbrev main_v71 : Ref sig .tc := ⟨.hbm, 174, rfl⟩
abbrev main_v72 : Ref sig .tc := ⟨.hbm, 175, rfl⟩
abbrev main_v73 : Ref sig .tc := ⟨.hbm, 176, rfl⟩
abbrev main_cst_22 : Ref sig .tc := ⟨.hbm, 177, rfl⟩
abbrev main_v74 : Ref sig .tc := ⟨.hbm, 178, rfl⟩
abbrev main_v75 : Ref sig .tc := ⟨.hbm, 179, rfl⟩
abbrev main_v76 : Ref sig .tc := ⟨.hbm, 180, rfl⟩
abbrev main_cst_23 : Ref sig .tc := ⟨.hbm, 181, rfl⟩
abbrev main_v77 : Ref sig .tc := ⟨.hbm, 182, rfl⟩
abbrev main_v78 : Ref sig .tc := ⟨.hbm, 183, rfl⟩
abbrev main_cst_24 : Ref sig .tc := ⟨.hbm, 184, rfl⟩
abbrev main_v79 : Ref sig .tc := ⟨.hbm, 185, rfl⟩
abbrev main_v80 : Ref sig .tc := ⟨.hbm, 186, rfl⟩
abbrev main_cst_25 : Ref sig .tc := ⟨.hbm, 187, rfl⟩
abbrev main_v81 : Ref sig .tc := ⟨.hbm, 188, rfl⟩
abbrev main_v82 : Ref sig .tc := ⟨.hbm, 189, rfl⟩
abbrev main_v83 : Ref sig .tc := ⟨.hbm, 190, rfl⟩
abbrev main_cst_26 : Ref sig .tc := ⟨.hbm, 191, rfl⟩
abbrev main_cst_27 : Ref sig .tc := ⟨.hbm, 192, rfl⟩
abbrev main_call4_v0 : Ref sig .tc := ⟨.hbm, 193, rfl⟩
abbrev main_call4_v1 : Ref sig .tc := ⟨.hbm, 194, rfl⟩
abbrev main_call4_v2 : Ref sig .tc := ⟨.hbm, 195, rfl⟩
abbrev main_call4_v3 : Ref sig .tc := ⟨.hbm, 196, rfl⟩
abbrev main_call4_v4 : Ref sig .tc := ⟨.hbm, 197, rfl⟩
abbrev main_v84 : Ref sig .tc := ⟨.hbm, 198, rfl⟩
abbrev main_cst_28 : Ref sig .tc := ⟨.hbm, 199, rfl⟩
abbrev main_v85 : Ref sig .tc := ⟨.hbm, 200, rfl⟩
abbrev main_v86 : Ref sig .tc := ⟨.hbm, 201, rfl⟩
abbrev main_cst_29 : Ref sig .tc := ⟨.hbm, 202, rfl⟩
abbrev main_v87 : Ref sig .tc := ⟨.hbm, 203, rfl⟩
abbrev main_v88 : Ref sig .tc := ⟨.hbm, 204, rfl⟩
abbrev main_v89 : Ref sig .tc := ⟨.hbm, 205, rfl⟩
abbrev main_cst_30 : Ref sig .tc := ⟨.hbm, 206, rfl⟩
abbrev main_cst_31 : Ref sig .tc := ⟨.hbm, 207, rfl⟩
abbrev main_call5_v0 : Ref sig .tc := ⟨.hbm, 208, rfl⟩
abbrev main_call5_v1 : Ref sig .tc := ⟨.hbm, 209, rfl⟩
abbrev main_call5_v2 : Ref sig .tc := ⟨.hbm, 210, rfl⟩
abbrev main_call5_v3 : Ref sig .tc := ⟨.hbm, 211, rfl⟩
abbrev main_call5_v4 : Ref sig .tc := ⟨.hbm, 212, rfl⟩
abbrev main_v90 : Ref sig .tc := ⟨.hbm, 213, rfl⟩
abbrev main_cst_32 : Ref sig .tc := ⟨.hbm, 214, rfl⟩
abbrev main_v91 : Ref sig .tc := ⟨.hbm, 215, rfl⟩
abbrev main_v92 : Ref sig .tc := ⟨.hbm, 216, rfl⟩
abbrev main_cst_33 : Ref sig .tc := ⟨.hbm, 217, rfl⟩
abbrev main_v93 : Ref sig .tc := ⟨.hbm, 218, rfl⟩
abbrev main_v94 : Ref sig .tc := ⟨.hbm, 219, rfl⟩
abbrev main_v95 : Ref sig .tc := ⟨.hbm, 220, rfl⟩
abbrev main_cst_34 : Ref sig .tc := ⟨.hbm, 221, rfl⟩
abbrev main_cst_35 : Ref sig .tc := ⟨.hbm, 222, rfl⟩
abbrev main_call6_v0 : Ref sig .tc := ⟨.hbm, 223, rfl⟩
abbrev main_call6_v1 : Ref sig .tc := ⟨.hbm, 224, rfl⟩
abbrev main_call6_v2 : Ref sig .tc := ⟨.hbm, 225, rfl⟩
abbrev main_call6_v3 : Ref sig .tc := ⟨.hbm, 226, rfl⟩
abbrev main_call6_v4 : Ref sig .tc := ⟨.hbm, 227, rfl⟩
abbrev main_v96 : Ref sig .tc := ⟨.hbm, 228, rfl⟩
abbrev main_cst_36 : Ref sig .tc := ⟨.hbm, 229, rfl⟩
abbrev main_v97 : Ref sig .tc := ⟨.hbm, 230, rfl⟩
abbrev main_v98 : Ref sig .tc := ⟨.hbm, 231, rfl⟩
abbrev main_cst_37 : Ref sig .tc := ⟨.hbm, 232, rfl⟩
abbrev main_v99 : Ref sig .tc := ⟨.hbm, 233, rfl⟩
abbrev main_v100 : Ref sig .tc := ⟨.hbm, 234, rfl⟩
abbrev main_v101 : Ref sig .tc := ⟨.hbm, 235, rfl⟩
abbrev main_cst_38 : Ref sig .tc := ⟨.hbm, 236, rfl⟩
abbrev main_cst_39 : Ref sig .tc := ⟨.hbm, 237, rfl⟩
abbrev main_call7_v0 : Ref sig .tc := ⟨.hbm, 238, rfl⟩
abbrev main_call7_v1 : Ref sig .tc := ⟨.hbm, 239, rfl⟩
abbrev main_call7_v2 : Ref sig .tc := ⟨.hbm, 240, rfl⟩
abbrev main_call7_v3 : Ref sig .tc := ⟨.hbm, 241, rfl⟩
abbrev main_call7_v4 : Ref sig .tc := ⟨.hbm, 242, rfl⟩
abbrev main_v102 : Ref sig .tc := ⟨.hbm, 243, rfl⟩
abbrev main_cst_40 : Ref sig .tc := ⟨.hbm, 244, rfl⟩
abbrev main_v103 : Ref sig .tc := ⟨.hbm, 245, rfl⟩
abbrev main_v104 : Ref sig .tc := ⟨.hbm, 246, rfl⟩
abbrev main_v105 : Ref sig .tc := ⟨.hbm, 247, rfl⟩
abbrev main_cst_41 : Ref sig .tc := ⟨.hbm, 248, rfl⟩
abbrev main_v106 : Ref sig .tc := ⟨.hbm, 249, rfl⟩
abbrev main_v107 : Ref sig .tc := ⟨.hbm, 250, rfl⟩
abbrev main_cst_42 : Ref sig .tc := ⟨.hbm, 251, rfl⟩
abbrev main_v108 : Ref sig .tc := ⟨.hbm, 252, rfl⟩
abbrev main_v109 : Ref sig .tc := ⟨.hbm, 253, rfl⟩
abbrev main_v110 : Ref sig .tc := ⟨.hbm, 254, rfl⟩
abbrev main_v111 : Ref sig .tc := ⟨.hbm, 255, rfl⟩
abbrev main_cst_43 : Ref sig .tc := ⟨.hbm, 256, rfl⟩
abbrev main_v112 : Ref sig .tc := ⟨.hbm, 257, rfl⟩
abbrev main_v113 : Ref sig .tc := ⟨.hbm, 258, rfl⟩
abbrev main_cst_44 : Ref sig .tc := ⟨.hbm, 259, rfl⟩
abbrev main_v114 : Ref sig .tc := ⟨.hbm, 260, rfl⟩
abbrev main_v115 : Ref sig .tc := ⟨.hbm, 261, rfl⟩
abbrev main_v116 : Ref sig .tc := ⟨.hbm, 262, rfl⟩
abbrev main_cst_45 : Ref sig .tc := ⟨.hbm, 263, rfl⟩
abbrev main_v117 : Ref sig .tc := ⟨.hbm, 264, rfl⟩
abbrev main_v118 : Ref sig .tc := ⟨.hbm, 265, rfl⟩
abbrev main_v119 : Ref sig .tc := ⟨.hbm, 266, rfl⟩
abbrev main_v120 : Ref sig .tc := ⟨.hbm, 267, rfl⟩
abbrev main_cst_46 : Ref sig .tc := ⟨.hbm, 268, rfl⟩
abbrev main_v121 : Ref sig .tc := ⟨.hbm, 269, rfl⟩
abbrev main_v122 : Ref sig .tc := ⟨.hbm, 270, rfl⟩
abbrev main_v123 : Ref sig .tc := ⟨.hbm, 271, rfl⟩
abbrev main_v124 : Ref sig .tc := ⟨.hbm, 272, rfl⟩
abbrev main_v125 : Ref sig .tc := ⟨.hbm, 273, rfl⟩
abbrev main_v126 : Ref sig .tc := ⟨.hbm, 274, rfl⟩
abbrev main_v127 : Ref sig .tc := ⟨.hbm, 275, rfl⟩
abbrev main_cst_47 : Ref sig .tc := ⟨.hbm, 276, rfl⟩
abbrev main_v128 : Ref sig .tc := ⟨.hbm, 277, rfl⟩
abbrev main_v129 : Ref sig .tc := ⟨.hbm, 278, rfl⟩
abbrev main_v130 : Ref sig .tc := ⟨.hbm, 279, rfl⟩
abbrev main_cst_48 : Ref sig .tc := ⟨.hbm, 280, rfl⟩
abbrev main_v131 : Ref sig .tc := ⟨.hbm, 281, rfl⟩
abbrev main_v132 : Ref sig .tc := ⟨.hbm, 282, rfl⟩
abbrev main_v133 : Ref sig .tc := ⟨.hbm, 283, rfl⟩
abbrev main_cst_49 : Ref sig .tc := ⟨.hbm, 284, rfl⟩
abbrev main_call8_v0 : Ref sig .tc := ⟨.hbm, 285, rfl⟩
abbrev main_v134 : Ref sig .tc := ⟨.hbm, 286, rfl⟩
abbrev main_cst_50 : Ref sig .tc := ⟨.hbm, 287, rfl⟩
abbrev main_call9_v0 : Ref sig .tc := ⟨.hbm, 288, rfl⟩
abbrev main_v135 : Ref sig .tc := ⟨.hbm, 289, rfl⟩
abbrev main_cst_51 : Ref sig .tc := ⟨.hbm, 290, rfl⟩
abbrev main_call10_v0 : Ref sig .tc := ⟨.hbm, 291, rfl⟩
abbrev main_v136 : Ref sig .tc := ⟨.hbm, 292, rfl⟩
abbrev main_cst_52 : Ref sig .tc := ⟨.hbm, 293, rfl⟩
abbrev main_call11_v0 : Ref sig .tc := ⟨.hbm, 294, rfl⟩
abbrev main_v137 : Ref sig .tc := ⟨.hbm, 295, rfl⟩
abbrev main_cst_53 : Ref sig .tc := ⟨.hbm, 296, rfl⟩
abbrev main_call12_v0 : Ref sig .tc := ⟨.hbm, 297, rfl⟩
abbrev main_v138 : Ref sig .tc := ⟨.hbm, 298, rfl⟩
abbrev main_cst_54 : Ref sig .tc := ⟨.hbm, 299, rfl⟩
abbrev main_call13_v0 : Ref sig .tc := ⟨.hbm, 300, rfl⟩
abbrev main_v139 : Ref sig .tc := ⟨.hbm, 301, rfl⟩
abbrev main_cst_55 : Ref sig .tc := ⟨.hbm, 302, rfl⟩
abbrev main_call14_v0 : Ref sig .tc := ⟨.hbm, 303, rfl⟩
abbrev main_v140 : Ref sig .tc := ⟨.hbm, 304, rfl⟩
abbrev main_cst_56 : Ref sig .tc := ⟨.hbm, 305, rfl⟩
abbrev main_call15_v0 : Ref sig .tc := ⟨.hbm, 306, rfl⟩
abbrev main_v141 : Ref sig .tc := ⟨.hbm, 307, rfl⟩
abbrev main_cst_57 : Ref sig .tc := ⟨.hbm, 308, rfl⟩
abbrev main_call16_v0 : Ref sig .tc := ⟨.hbm, 309, rfl⟩
abbrev main_v142 : Ref sig .tc := ⟨.hbm, 310, rfl⟩
abbrev main_cst_58 : Ref sig .tc := ⟨.hbm, 311, rfl⟩
abbrev main_call17_v0 : Ref sig .tc := ⟨.hbm, 312, rfl⟩
abbrev main_v143 : Ref sig .tc := ⟨.hbm, 313, rfl⟩
abbrev main_v144 : Ref sig .tc := ⟨.hbm, 314, rfl⟩
abbrev main_cst_59 : Ref sig .tc := ⟨.hbm, 315, rfl⟩
abbrev main_call18_v0 : Ref sig .tc := ⟨.hbm, 316, rfl⟩
abbrev main_v145 : Ref sig .tc := ⟨.hbm, 317, rfl⟩
abbrev main_cst_60 : Ref sig .tc := ⟨.hbm, 318, rfl⟩
abbrev main_v146 : Ref sig .tc := ⟨.hbm, 319, rfl⟩
abbrev main_cst_61 : Ref sig .tc := ⟨.hbm, 320, rfl⟩
abbrev main_v147 : Ref sig .tc := ⟨.hbm, 321, rfl⟩
abbrev main_cst_62 : Ref sig .tc := ⟨.hbm, 322, rfl⟩
abbrev main_v148 : Ref sig .tc := ⟨.hbm, 323, rfl⟩
abbrev main_cst_63 : Ref sig .tc := ⟨.hbm, 324, rfl⟩
abbrev main_v149 : Ref sig .tc := ⟨.hbm, 325, rfl⟩
abbrev main_cst_64 : Ref sig .tc := ⟨.hbm, 326, rfl⟩
abbrev main_v150 : Ref sig .tc := ⟨.hbm, 327, rfl⟩
abbrev main_v151 : Ref sig .tc := ⟨.hbm, 328, rfl⟩
abbrev main_v152 : Ref sig .tc := ⟨.hbm, 329, rfl⟩
abbrev main_v153 : Ref sig .tc := ⟨.hbm, 330, rfl⟩
abbrev main_v154 : Ref sig .tc := ⟨.hbm, 331, rfl⟩
abbrev main_v155 : Ref sig .tc := ⟨.hbm, 332, rfl⟩
abbrev main_v156 : Ref sig .tc := ⟨.hbm, 333, rfl⟩
abbrev main_v157 : Ref sig .tc := ⟨.hbm, 334, rfl⟩
abbrev main_v158 : Ref sig .tc := ⟨.hbm, 335, rfl⟩
abbrev main_v159 : Ref sig .tc := ⟨.hbm, 336, rfl⟩
abbrev main_v160 : Ref sig .tc := ⟨.hbm, 337, rfl⟩
abbrev main_v161 : Ref sig .tc := ⟨.hbm, 338, rfl⟩
abbrev main_v162 : Ref sig .tc := ⟨.hbm, 339, rfl⟩
abbrev main_v163 : Ref sig .tc := ⟨.hbm, 340, rfl⟩
abbrev main_v164 : Ref sig .tc := ⟨.hbm, 341, rfl⟩
abbrev main_v165 : Ref sig .tc := ⟨.hbm, 342, rfl⟩
abbrev main_v166 : Ref sig .tc := ⟨.hbm, 343, rfl⟩
abbrev main_v167 : Ref sig .tc := ⟨.hbm, 344, rfl⟩
abbrev main_cst_65 : Ref sig .tc := ⟨.hbm, 345, rfl⟩
abbrev main_call19_v0 : Ref sig .tc := ⟨.hbm, 346, rfl⟩
abbrev main_v168 : Ref sig .tc := ⟨.hbm, 347, rfl⟩
abbrev main_v169 : Ref sig .tc := ⟨.hbm, 348, rfl⟩
abbrev main_cst_66 : Ref sig .tc := ⟨.hbm, 349, rfl⟩
abbrev main_call20_v0 : Ref sig .tc := ⟨.hbm, 350, rfl⟩
abbrev main_v170 : Ref sig .tc := ⟨.hbm, 351, rfl⟩
abbrev main_v171 : Ref sig .tc := ⟨.hbm, 352, rfl⟩
abbrev main_cst_67 : Ref sig .tc := ⟨.hbm, 353, rfl⟩
abbrev main_call21_v0 : Ref sig .tc := ⟨.hbm, 354, rfl⟩
abbrev main_v172 : Ref sig .tc := ⟨.hbm, 355, rfl⟩
abbrev main_v173 : Ref sig .tc := ⟨.hbm, 356, rfl⟩
abbrev main_cst_68 : Ref sig .tc := ⟨.hbm, 357, rfl⟩
abbrev main_call22_v0 : Ref sig .tc := ⟨.hbm, 358, rfl⟩
abbrev main_v174 : Ref sig .tc := ⟨.hbm, 359, rfl⟩
abbrev main_v175 : Ref sig .tc := ⟨.hbm, 360, rfl⟩
abbrev main_cst_69 : Ref sig .tc := ⟨.hbm, 361, rfl⟩
abbrev main_call23_v0 : Ref sig .tc := ⟨.hbm, 362, rfl⟩
abbrev main_v176 : Ref sig .tc := ⟨.hbm, 363, rfl⟩
abbrev main_v177 : Ref sig .tc := ⟨.hbm, 364, rfl⟩
abbrev main_v178 : Ref sig .tc := ⟨.hbm, 365, rfl⟩
abbrev main_cst_70 : Ref sig .tc := ⟨.hbm, 366, rfl⟩
abbrev main_call24_v0 : Ref sig .tc := ⟨.hbm, 367, rfl⟩
abbrev main_v179 : Ref sig .tc := ⟨.hbm, 368, rfl⟩
abbrev main_v180 : Ref sig .tc := ⟨.hbm, 369, rfl⟩
abbrev main_v181 : Ref sig .tc := ⟨.hbm, 370, rfl⟩
abbrev main_v182 : Ref sig .tc := ⟨.hbm, 371, rfl⟩
abbrev main_v183 : Ref sig .tc := ⟨.hbm, 372, rfl⟩
abbrev main_v184 : Ref sig .tc := ⟨.hbm, 373, rfl⟩
abbrev main_v185 : Ref sig .tc := ⟨.hbm, 374, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9
abbrev cc1_sem7_0 : DmaSem sig := 10

abbrev nD : Nat := 1
abbrev τ : Topo := Topo.v7x

variable {F : FTy → Type} [FloatOps F]

abbrev grid0 : Pipeline.Grid := .none

abbrev stage0_0 : Fin 1 → Memref sig .tc .vmem S80x20480 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x20480 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S80x20480 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := .none

@[reducible] def k1_t1_loop : Scf.Loop 32 :=
  let c0_i32 : BitVec 32 := 0#32
  let c100_i32 : BitVec 32 := 100#32
  let v23 : BitVec 32 := Scalar.addi c0_i32 c100_i32
  let c1_i32 : BitVec 32 := 1#32
  ⟨c0_i32, v23, c1_i32⟩
def k1_off1 (v34 : BitVec 32) (v40 : BitVec 32) : Fin 2 → Nat :=
  let c4096_i32_17 : BitVec 32 := 4096#32
  let v41 : BitVec 1 := Scalar.cmpi .slt v34 c4096_i32_17
  let v42 : BitVec 32 := Scalar.select v41 v34 v40
  let v43 : Index := Scalar.indexCast v42
  let c0_18 : Index := 0#32
  ![v43.toNat, 0]

def k1_chk1 (v34 : BitVec 32) (v40 : BitVec 32) : Prop :=
  (∀ a, (k1_off1 v34 v40) a + S1x16.size a ≤ S1024x16.size a)
theorem k1_off1_inb : ∀ (v34 : BitVec 32) (v40 : BitVec 32) (k1_hw1 : k1_chk1 v34 v40), ∀ a, (k1_off1 v34 v40) a + S1x16.size a ≤ S1024x16.size a := fun v34 v40 k1_hw1 => k1_hw1

def k1_off2 (k1_t1 : Fin k1_t1_loop.trips) : Fin 2 → Nat :=
  let c0_i32 : BitVec 32 := 0#32
  let c1_i32 : BitVec 32 := 1#32
  let arg8 : BitVec 32 := Scf.iv c0_i32 c1_i32 k1_t1
  let v133 : Index := Scalar.indexCast arg8
  let c0_30 : Index := 0#32
  ![v133.toNat, 0]
abbrev stage1_0 : Fin 1 → Memref sig .tc .vmem S1024x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S8x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S8x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S100x8 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
-- ==== ReferenceIdeal.lean ====
abbrev S1x4x128x160 : Shape := ⟨4, ![1, 4, 128, 160]⟩
abbrev S1x1x128x160 : Shape := ⟨4, ![1, 1, 128, 160]⟩
abbrev S20480x4 : Shape := ⟨2, ![20480, 4]⟩
abbrev S1x80x128x160 : Shape := ⟨4, ![1, 80, 128, 160]⟩
abbrev S1x1x80x128x160 : Shape := ⟨5, ![1, 1, 80, 128, 160]⟩
abbrev S1x128x160x1x80 : Shape := ⟨5, ![1, 128, 160, 1, 80]⟩
abbrev S20480x80 : Shape := ⟨2, ![20480, 80]⟩
abbrev S_ : Shape := ⟨0, ![]⟩
abbrev S1x1x4x128x160 : Shape := ⟨5, ![1, 1, 4, 128, 160]⟩
abbrev S1x128x160x1x4 : Shape := ⟨5, ![1, 128, 160, 1, 4]⟩
abbrev S1x1x1x128x160 : Shape := ⟨5, ![1, 1, 1, 128, 160]⟩
abbrev S1x128x160x1x1 : Shape := ⟨5, ![1, 128, 160, 1, 1]⟩
abbrev S20480 : Shape := ⟨1, ![20480]⟩
abbrev S20480x1 : Shape := ⟨2, ![20480, 1]⟩
abbrev S1638400 : Shape := ⟨1, ![1638400]⟩
abbrev S1000 : Shape := ⟨1, ![1000]⟩
abbrev S1000x1 : Shape := ⟨2, ![1000, 1]⟩
abbrev S1000x4 : Shape := ⟨2, ![1000, 4]⟩
abbrev S1000x2 : Shape := ⟨2, ![1000, 2]⟩
abbrev S1000x1x2 : Shape := ⟨3, ![1000, 1, 2]⟩
abbrev S1x1000x2 : Shape := ⟨3, ![1, 1000, 2]⟩
abbrev S1000x1000x2 : Shape := ⟨3, ![1000, 1000, 2]⟩
abbrev S1000x1000x1 : Shape := ⟨3, ![1000, 1000, 1]⟩
abbrev S1000x1000 : Shape := ⟨2, ![1000, 1000]⟩
abbrev S1x1000 : Shape := ⟨2, ![1, 1000]⟩
abbrev S1 : Shape := ⟨1, ![1]⟩
abbrev S100 : Shape := ⟨1, ![100]⟩
abbrev S100x1 : Shape := ⟨2, ![100, 1]⟩
abbrev S100x4 : Shape := ⟨2, ![100, 4]⟩
abbrev S100x5 : Shape := ⟨2, ![100, 5]⟩

abbrev nBuf : Space → Nat
  | .hbm => 401
  | .vmem => 0
  | .smem => 0
  | _ => 0

abbrev hbmTy0_0 (i : Nat) : BufTy := match i % 128 with
  | 0 => ⟨S1x4x128x160, .f32⟩
  | 1 => ⟨S1x1x128x160, .f32⟩
  | 2 => ⟨S20480x4, .f32⟩
  | 3 => ⟨S1x80x128x160, .f32⟩
  | 4 => ⟨S1x1x80x128x160, .f32⟩
  | 5 => ⟨S1x128x160x1x80, .f32⟩
  | 6 => ⟨S20480x80, .f32⟩
  | 7 => ⟨S20480x80, .f32⟩
  | 8 => ⟨S20480x80, .f32⟩
  | 9 => ⟨S_, .f32⟩
  | 10 => ⟨S20480x80, .f32⟩
  | 11 => ⟨S20480x80, .f32⟩
  | 12 => ⟨S_, .f32⟩
  | 13 => ⟨S20480x80, .f32⟩
  | 14 => ⟨S20480x80, .f32⟩
  | 15 => ⟨S1x1x4x128x160, .f32⟩
  | 16 => ⟨S1x128x160x1x4, .f32⟩
  | 17 => ⟨S20480x4, .f32⟩
  | 18 => ⟨S1x1x1x128x160, .f32⟩
  | 19 => ⟨S1x128x160x1x1, .f32⟩
  | 20 => ⟨S20480, .f32⟩
  | 21 => ⟨S20480, .f32⟩
  | 22 => ⟨S20480, .f32⟩
  | 23 => ⟨S_, .f32⟩
  | 24 => ⟨S20480, .f32⟩
  | 25 => ⟨S20480, .f32⟩
  | 26 => ⟨S_, .f32⟩
  | 27 => ⟨S20480, .f32⟩
  | 28 => ⟨S20480, .f32⟩
  | 29 => ⟨S_, .f32⟩
  | 30 => ⟨S20480x80, .f32⟩
  | 31 => ⟨S20480x80, .i1⟩
  | 32 => ⟨S20480x1, .f32⟩
  | 33 => ⟨S20480x80, .f32⟩
  | 34 => ⟨S20480x80, .f32⟩
  | 35 => ⟨S_, .f32⟩
  | 36 => ⟨S_, .f32⟩
  | 37 => ⟨S20480x80, .f32⟩
  | 38 => ⟨S20480x80, .f32⟩
  | 39 => ⟨S1638400, .f32⟩
  | 40 => ⟨S1000, .f32⟩
  | 41 => ⟨S1000, .i32⟩
  | 42 => ⟨S_, .i32⟩
  | 43 => ⟨S_, .i32⟩
  | 44 => ⟨S1000, .i32⟩
  | 45 => ⟨S1000, .i32⟩
  | 46 => ⟨S1000, .i32⟩
  | 47 => ⟨S_, .i32⟩
  | 48 => ⟨S1000, .i32⟩
  | 49 => ⟨S1000, .i1⟩
  | 50 => ⟨S1000, .i32⟩
  | 51 => ⟨S1000, .i32⟩
  | 52 => ⟨S_, .i32⟩
  | 53 => ⟨S1000, .i32⟩
  | 54 => ⟨S1000, .i1⟩
  | 55 => ⟨S1000, .i1⟩
  | 56 => ⟨S_, .i32⟩
  | 57 => ⟨S1000, .i32⟩
  | 58 => ⟨S1000, .i32⟩
  | 59 => ⟨S1000, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S1000, .i32⟩
  | 67 => ⟨S1000, .i32⟩
  | 68 => ⟨S_, .i32⟩
  | 69 => ⟨S1000, .i32⟩
  | 70 => ⟨S1000, .i1⟩
  | 71 => ⟨S_, .i32⟩
  | 72 => ⟨S1000, .i32⟩
  | 73 => ⟨S1000, .i1⟩
  | 74 => ⟨S_, .i32⟩
  | 75 => ⟨S_, .i1⟩
  | 76 => ⟨S1000, .i1⟩
  | 77 => ⟨S1000, .i1⟩
  | 78 => ⟨S1000, .i1⟩
  | 79 => ⟨S1000, .i32⟩
  | 80 => ⟨S1000, .i32⟩
  | 81 => ⟨S1000, .i32⟩
  | 82 => ⟨S_, .i32⟩
  | 83 => ⟨S1000, .i32⟩
  | 84 => ⟨S1000, .i32⟩
  | 85 => ⟨S_, .i32⟩
  | 86 => ⟨S1000, .i32⟩
  | 87 => ⟨S1000, .i1⟩
  | 88 => ⟨S_, .i32⟩
  | 89 => ⟨S1000, .i32⟩
  | 90 => ⟨S1000, .i32⟩
  | 91 => ⟨S1000, .i32⟩
  | 92 => ⟨S1000x1, .i32⟩
  | 93 => ⟨S1000x4, .f32⟩
  | 94 => ⟨S_, .i32⟩
  | 95 => ⟨S1000, .i32⟩
  | 96 => ⟨S1000, .i1⟩
  | 97 => ⟨S_, .i32⟩
  | 98 => ⟨S1000, .i32⟩
  | 99 => ⟨S1000, .i32⟩
  | 100 => ⟨S1000, .i32⟩
  | 101 => ⟨S1000x1, .i32⟩
  | 102 => ⟨S1000x4, .f32⟩
  | 103 => ⟨S1000x1, .f32⟩
  | 104 => ⟨S1000, .f32⟩
  | 105 => ⟨S1000x1, .f32⟩
  | 106 => ⟨S1000, .f32⟩
  | 107 => ⟨S1000, .f32⟩
  | 108 => ⟨S_, .f32⟩
  | 109 => ⟨S1000, .f32⟩
  | 110 => ⟨S1000, .f32⟩
  | 111 => ⟨S1000x1, .f32⟩
  | 112 => ⟨S1000, .f32⟩
  | 113 => ⟨S1000x1, .f32⟩
  | 114 => ⟨S1000, .f32⟩
  | 115 => ⟨S1000, .f32⟩
  | 116 => ⟨S_, .f32⟩
  | 117 => ⟨S1000, .f32⟩
  | 118 => ⟨S1000, .f32⟩
  | 119 => ⟨S1000x1, .f32⟩
  | 120 => ⟨S1000, .f32⟩
  | 121 => ⟨S_, .f32⟩
  | 122 => ⟨S1000, .f32⟩
  | 123 => ⟨S1000, .f32⟩
  | 124 => ⟨S1000, .f32⟩
  | 125 => ⟨S1000x1, .f32⟩
  | 126 => ⟨S1000, .f32⟩
  | 127 => ⟨S_, .f32⟩
  | _ => ⟨S1x4x128x160, .f32⟩

abbrev hbmTy0_1 (i : Nat) : BufTy := match i % 128 with
  | 0 => ⟨S1000, .f32⟩
  | 1 => ⟨S1000, .f32⟩
  | 2 => ⟨S1000, .f32⟩
  | 3 => ⟨S1000x1, .f32⟩
  | 4 => ⟨S1000, .f32⟩
  | 5 => ⟨S_, .f32⟩
  | 6 => ⟨S1000, .f32⟩
  | 7 => ⟨S1000, .f32⟩
  | 8 => ⟨S1000x1, .f32⟩
  | 9 => ⟨S1000, .f32⟩
  | 10 => ⟨S_, .f32⟩
  | 11 => ⟨S1000, .f32⟩
  | 12 => ⟨S1000, .f32⟩
  | 13 => ⟨S1000x1, .f32⟩
  | 14 => ⟨S1000, .f32⟩
  | 15 => ⟨S_, .f32⟩
  | 16 => ⟨S1000, .f32⟩
  | 17 => ⟨S1000, .f32⟩
  | 18 => ⟨S_, .f32⟩
  | 19 => ⟨S1000, .f32⟩
  | 20 => ⟨S1000, .f32⟩
  | 21 => ⟨S1000x1, .f32⟩
  | 22 => ⟨S1000, .f32⟩
  | 23 => ⟨S_, .f32⟩
  | 24 => ⟨S1000, .f32⟩
  | 25 => ⟨S1000, .f32⟩
  | 26 => ⟨S_, .f32⟩
  | 27 => ⟨S1000, .f32⟩
  | 28 => ⟨S1000, .f32⟩
  | 29 => ⟨S1000, .f32⟩
  | 30 => ⟨S1000, .f32⟩
  | 31 => ⟨S1000, .f32⟩
  | 32 => ⟨S1000, .f32⟩
  | 33 => ⟨S1000, .f32⟩
  | 34 => ⟨S1000, .f32⟩
  | 35 => ⟨S1000, .f32⟩
  | 36 => ⟨S1000, .f32⟩
  | 37 => ⟨S_, .f32⟩
  | 38 => ⟨S1000, .f32⟩
  | 39 => ⟨S1000, .f32⟩
  | 40 => ⟨S_, .f32⟩
  | 41 => ⟨S1000, .f32⟩
  | 42 => ⟨S1000, .f32⟩
  | 43 => ⟨S1000, .f32⟩
  | 44 => ⟨S_, .f32⟩
  | 45 => ⟨S1000, .f32⟩
  | 46 => ⟨S1000, .f32⟩
  | 47 => ⟨S_, .f32⟩
  | 48 => ⟨S1000, .f32⟩
  | 49 => ⟨S1000, .f32⟩
  | 50 => ⟨S1000, .f32⟩
  | 51 => ⟨S_, .f32⟩
  | 52 => ⟨S1000, .f32⟩
  | 53 => ⟨S1000, .f32⟩
  | 54 => ⟨S_, .f32⟩
  | 55 => ⟨S1000, .f32⟩
  | 56 => ⟨S1000, .f32⟩
  | 57 => ⟨S1000, .f32⟩
  | 58 => ⟨S_, .f32⟩
  | 59 => ⟨S1000, .f32⟩
  | 60 => ⟨S1000, .f32⟩
  | 61 => ⟨S_, .f32⟩
  | 62 => ⟨S1000, .f32⟩
  | 63 => ⟨S1000, .f32⟩
  | 64 => ⟨S1000, .f32⟩
  | 65 => ⟨S1000x1, .f32⟩
  | 66 => ⟨S1000x1, .f32⟩
  | 67 => ⟨S1000x1, .f32⟩
  | 68 => ⟨S1000x1, .f32⟩
  | 69 => ⟨S1000x4, .f32⟩
  | 70 => ⟨S1000x1, .f32⟩
  | 71 => ⟨S1000, .f32⟩
  | 72 => ⟨S_, .f32⟩
  | 73 => ⟨S_, .f32⟩
  | 74 => ⟨S_, .f32⟩
  | 75 => ⟨S1000, .f32⟩
  | 76 => ⟨S1000, .f32⟩
  | 77 => ⟨S_, .f32⟩
  | 78 => ⟨S1000, .f32⟩
  | 79 => ⟨S1000, .f32⟩
  | 80 => ⟨S1000x1, .f32⟩
  | 81 => ⟨S1000, .f32⟩
  | 82 => ⟨S_, .f32⟩
  | 83 => ⟨S_, .f32⟩
  | 84 => ⟨S_, .f32⟩
  | 85 => ⟨S1000, .f32⟩
  | 86 => ⟨S1000, .f32⟩
  | 87 => ⟨S_, .f32⟩
  | 88 => ⟨S1000, .f32⟩
  | 89 => ⟨S1000, .f32⟩
  | 90 => ⟨S1000x1, .f32⟩
  | 91 => ⟨S1000, .f32⟩
  | 92 => ⟨S_, .f32⟩
  | 93 => ⟨S_, .f32⟩
  | 94 => ⟨S_, .f32⟩
  | 95 => ⟨S1000, .f32⟩
  | 96 => ⟨S1000, .f32⟩
  | 97 => ⟨S_, .f32⟩
  | 98 => ⟨S1000, .f32⟩
  | 99 => ⟨S1000, .f32⟩
  | 100 => ⟨S1000x1, .f32⟩
  | 101 => ⟨S1000, .f32⟩
  | 102 => ⟨S_, .f32⟩
  | 103 => ⟨S_, .f32⟩
  | 104 => ⟨S_, .f32⟩
  | 105 => ⟨S1000, .f32⟩
  | 106 => ⟨S1000, .f32⟩
  | 107 => ⟨S_, .f32⟩
  | 108 => ⟨S1000, .f32⟩
  | 109 => ⟨S1000, .f32⟩
  | 110 => ⟨S1000x1, .f32⟩
  | 111 => ⟨S1000x1, .f32⟩
  | 112 => ⟨S1000x1, .f32⟩
  | 113 => ⟨S1000x1, .f32⟩
  | 114 => ⟨S1000x4, .f32⟩
  | 115 => ⟨S1000, .f32⟩
  | 116 => ⟨S_, .f32⟩
  | 117 => ⟨S1000, .f32⟩
  | 118 => ⟨S1000, .f32⟩
  | 119 => ⟨S1000, .f32⟩
  | 120 => ⟨S_, .f32⟩
  | 121 => ⟨S1000, .f32⟩
  | 122 => ⟨S1000, .f32⟩
  | 123 => ⟨S_, .f32⟩
  | 124 => ⟨S1000, .f32⟩
  | 125 => ⟨S1000, .i1⟩
  | 126 => ⟨S_, .f32⟩
  | 127 => ⟨S1000, .f32⟩
  | _ => ⟨S1x4x128x160, .f32⟩

abbrev hbmTy0_2 (i : Nat) : BufTy := match i % 128 with
  | 0 => ⟨S1000, .i1⟩
  | 1 => ⟨S1000, .i1⟩
  | 2 => ⟨S_, .f32⟩
  | 3 => ⟨S1000, .f32⟩
  | 4 => ⟨S1000, .i1⟩
  | 5 => ⟨S1000, .i1⟩
  | 6 => ⟨S_, .f32⟩
  | 7 => ⟨S1000, .f32⟩
  | 8 => ⟨S1000, .f32⟩
  | 9 => ⟨S1000, .f32⟩
  | 10 => ⟨S1000, .f32⟩
  | 11 => ⟨S_, .f32⟩
  | 12 => ⟨S1000, .f32⟩
  | 13 => ⟨S1000, .f32⟩
  | 14 => ⟨S1000x1, .f32⟩
  | 15 => ⟨S1000x4, .f32⟩
  | 16 => ⟨S1000x4, .f32⟩
  | 17 => ⟨S1000x1, .f32⟩
  | 18 => ⟨S1000, .f32⟩
  | 19 => ⟨S1000x1, .f32⟩
  | 20 => ⟨S1000, .f32⟩
  | 21 => ⟨S1000, .f32⟩
  | 22 => ⟨S_, .f32⟩
  | 23 => ⟨S1000, .f32⟩
  | 24 => ⟨S1000, .f32⟩
  | 25 => ⟨S1000x1, .f32⟩
  | 26 => ⟨S1000, .f32⟩
  | 27 => ⟨S1000x1, .f32⟩
  | 28 => ⟨S1000, .f32⟩
  | 29 => ⟨S1000, .f32⟩
  | 30 => ⟨S_, .f32⟩
  | 31 => ⟨S1000, .f32⟩
  | 32 => ⟨S1000, .f32⟩
  | 33 => ⟨S1000, .f32⟩
  | 34 => ⟨S1000x2, .f32⟩
  | 35 => ⟨S1000x1x2, .f32⟩
  | 36 => ⟨S1000x2, .f32⟩
  | 37 => ⟨S1x1000x2, .f32⟩
  | 38 => ⟨S1000x1000x2, .f32⟩
  | 39 => ⟨S1000x1000x2, .f32⟩
  | 40 => ⟨S1000x1000x2, .f32⟩
  | 41 => ⟨S1000x2, .f32⟩
  | 42 => ⟨S1000x1x2, .f32⟩
  | 43 => ⟨S1000x2, .f32⟩
  | 44 => ⟨S1x1000x2, .f32⟩
  | 45 => ⟨S1000x1000x2, .f32⟩
  | 46 => ⟨S1000x1000x2, .f32⟩
  | 47 => ⟨S1000x1000x2, .f32⟩
  | 48 => ⟨S1000x1000x2, .f32⟩
  | 49 => ⟨S_, .f32⟩
  | 50 => ⟨S1000x1000x2, .f32⟩
  | 51 => ⟨S1000x1000x2, .f32⟩
  | 52 => ⟨S_, .f32⟩
  | 53 => ⟨S1000x1000x2, .f32⟩
  | 54 => ⟨S1000x1000x2, .f32⟩
  | 55 => ⟨S1000x1000x1, .f32⟩
  | 56 => ⟨S1000x1000, .f32⟩
  | 57 => ⟨S1000x1000x1, .f32⟩
  | 58 => ⟨S1000x1000, .f32⟩
  | 59 => ⟨S1000x1000, .f32⟩
  | 60 => ⟨S1000x1, .f32⟩
  | 61 => ⟨S1x1000, .f32⟩
  | 62 => ⟨S1000x1000, .f32⟩
  | 63 => ⟨S1000x1000, .f32⟩
  | 64 => ⟨S1000x1000, .f32⟩
  | 65 => ⟨S1000x1000, .f32⟩
  | 66 => ⟨S_, .f32⟩
  | 67 => ⟨S1000x1000, .f32⟩
  | 68 => ⟨S1000x1000, .f32⟩
  | 69 => ⟨S1000x1000, .f32⟩
  | 70 => ⟨S1000, .i32⟩
  | 71 => ⟨S_, .i32⟩
  | 72 => ⟨S_, .i32⟩
  | 73 => ⟨S1000x1000, .f32⟩
  | 74 => ⟨S1000, .i32⟩
  | 75 => ⟨S_, .i32⟩
  | 76 => ⟨S_, .i32⟩
  | 77 => ⟨S1000, .i1⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S_, .i32⟩
  | 96 => ⟨S1x1000, .f32⟩
  | 97 => ⟨S1000, .f32⟩
  | 98 => ⟨S_, .f32⟩
  | 99 => ⟨S1000, .f32⟩
  | 100 => ⟨S1000, .i1⟩
  | 101 => ⟨S_, .i32⟩
  | 102 => ⟨S1000, .i32⟩
  | 103 => ⟨S1000, .i1⟩
  | 104 => ⟨S1000, .i1⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S1, .i1⟩
  | 112 => ⟨S_, .i1⟩
  | 113 => ⟨S1000, .i1⟩
  | 114 => ⟨S1000, .i1⟩
  | 115 => ⟨S1000, .i1⟩
  | 116 => ⟨S1000, .i1⟩
  | 117 => ⟨S_, .i32⟩
  | 118 => ⟨S_, .i32⟩
  | 119 => ⟨S_, .f32⟩
  | 120 => ⟨S_, .f32⟩
  | 121 => ⟨S1000, .f32⟩
  | 122 => ⟨S1000, .f32⟩
  | 123 => ⟨S100, .f32⟩
  | 124 => ⟨S100, .i32⟩
  | 125 => ⟨S_, .i32⟩
  | 126 => ⟨S100, .i32⟩
  | 127 => ⟨S100, .i1⟩
  | _ => ⟨S1x4x128x160, .f32⟩

abbrev hbmTy0_3 (i : Nat) : BufTy := match i % 128 with
  | 0 => ⟨S_, .i32⟩
  | 1 => ⟨S100, .i32⟩
  | 2 => ⟨S100, .i32⟩
  | 3 => ⟨S100, .i32⟩
  | 4 => ⟨S100x1, .i32⟩
  | 5 => ⟨S100x4, .f32⟩
  | 6 => ⟨S_, .i32⟩
  | 7 => ⟨S100, .i32⟩
  | 8 => ⟨S100, .i1⟩
  | 9 => ⟨S_, .i32⟩
  | 10 => ⟨S100, .i32⟩
  | 11 => ⟨S100, .i32⟩
  | 12 => ⟨S100, .i32⟩
  | 13 => ⟨S100x1, .i32⟩
  | 14 => ⟨S100, .i32⟩
  | 15 => ⟨S100x1, .f32⟩
  | 16 => ⟨S100x5, .f32⟩
  | _ => ⟨S1x4x128x160, .f32⟩

abbrev hbmTy (i : Nat) : BufTy := match i / 128 with
  | 0 => hbmTy0_0 i
  | 1 => hbmTy0_1 i
  | 2 => hbmTy0_2 i
  | 3 => hbmTy0_3 i
  | _ => ⟨S1x4x128x160, .f32⟩

abbrev bufTy : (tb : Table) → Fin (tcTables nBuf tb) → BufTy
  | .hbm, ⟨i, _⟩ => hbmTy i
  | _, _ => ⟨S1x4x128x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_v26 : Ref sig .tc := ⟨.hbm, 38, rfl⟩
abbrev main_v27 : Ref sig .tc := ⟨.hbm, 39, rfl⟩
abbrev main_values : Ref sig .tc := ⟨.hbm, 40, rfl⟩
abbrev main_indices : Ref sig .tc := ⟨.hbm, 41, rfl⟩
abbrev main_c : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v28 : Ref sig .tc := ⟨.hbm, 59, rfl⟩
abbrev main_c_5 : Ref sig .tc := ⟨.hbm, 60, rfl⟩
abbrev main_call2_v0 : Ref sig .tc := ⟨.hbm, 61, rfl⟩
abbrev main_call2_c : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_c_1 : Ref sig .tc := ⟨.hbm, 68, rfl⟩
abbrev main_call2_v5 : Ref sig .tc := ⟨.hbm, 69, rfl⟩
abbrev main_call2_v6 : Ref sig .tc := ⟨.hbm, 70, rfl⟩
abbrev main_call2_c_2 : Ref sig .tc := ⟨.hbm, 71, rfl⟩
abbrev main_call2_v7 : Ref sig .tc := ⟨.hbm, 72, rfl⟩
abbrev main_call2_v8 : Ref sig .tc := ⟨.hbm, 73, rfl⟩
abbrev main_call2_c_3 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_v29 : Ref sig .tc := ⟨.hbm, 81, rfl⟩
abbrev main_c_6 : Ref sig .tc := ⟨.hbm, 82, rfl⟩
abbrev main_v30 : Ref sig .tc := ⟨.hbm, 83, rfl⟩
abbrev main_v31 : Ref sig .tc := ⟨.hbm, 84, rfl⟩
abbrev main_c_7 : Ref sig .tc := ⟨.hbm, 85, rfl⟩
abbrev main_v32 : Ref sig .tc := ⟨.hbm, 86, rfl⟩
abbrev main_v33 : Ref sig .tc := ⟨.hbm, 87, rfl⟩
abbrev main_c_8 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_c_9 : Ref sig .tc := ⟨.hbm, 94, rfl⟩
abbrev main_v39 : Ref sig .tc := ⟨.hbm, 95, rfl⟩
abbrev main_v40 : Ref sig .tc := ⟨.hbm, 96, rfl⟩
abbrev main_c_10 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_cst_11 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_cst_12 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_cst_13 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_cst_14 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_cst_15 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_cst_16 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_cst_17 : Ref sig .tc := ⟨.hbm, 143, rfl⟩
abbrev main_v80 : Ref sig .tc := ⟨.hbm, 144, rfl⟩
abbrev main_v81 : Ref sig .tc := ⟨.hbm, 145, rfl⟩
abbrev main_cst_18 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_cst_19 : Ref sig .tc := ⟨.hbm, 151, rfl⟩
abbrev main_v86 : Ref sig .tc := ⟨.hbm, 152, rfl⟩
abbrev main_v87 : Ref sig .tc := ⟨.hbm, 153, rfl⟩
abbrev main_cst_20 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_cst_21 : Ref sig .tc := ⟨.hbm, 165, rfl⟩
abbrev main_v98 : Ref sig .tc := ⟨.hbm, 166, rfl⟩
abbrev main_v99 : Ref sig .tc := ⟨.hbm, 167, rfl⟩
abbrev main_cst_22 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_cst_23 : Ref sig .tc := ⟨.hbm, 172, rfl⟩
abbrev main_v103 : Ref sig .tc := ⟨.hbm, 173, rfl⟩
abbrev main_v104 : Ref sig .tc := ⟨.hbm, 174, rfl⟩
abbrev main_cst_24 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_cst_25 : Ref sig .tc := ⟨.hbm, 179, rfl⟩
abbrev main_v108 : Ref sig .tc := ⟨.hbm, 180, rfl⟩
abbrev main_v109 : Ref sig .tc := ⟨.hbm, 181, rfl⟩
abbrev main_cst_26 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_cst_27 : Ref sig .tc := ⟨.hbm, 186, rfl⟩
abbrev main_v113 : Ref sig .tc := ⟨.hbm, 187, rfl⟩
abbrev main_v114 : Ref sig .tc := ⟨.hbm, 188, rfl⟩
abbrev main_cst_28 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_cst_29 : Ref sig .tc := ⟨.hbm, 200, rfl⟩
abbrev main_cst_30 : Ref sig .tc := ⟨.hbm, 201, rfl⟩
abbrev main_call3_v0 : Ref sig .tc := ⟨.hbm, 202, rfl⟩
abbrev main_call3_v1 : Ref sig .tc := ⟨.hbm, 203, rfl⟩
abbrev main_call3_v2 : Ref sig .tc := ⟨.hbm, 204, rfl⟩
abbrev main_call3_v3 : Ref sig .tc := ⟨.hbm, 205, rfl⟩
abbrev main_call3_v4 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_cst_31 : Ref sig .tc := ⟨.hbm, 210, rfl⟩
abbrev main_cst_32 : Ref sig .tc := ⟨.hbm, 211, rfl⟩
abbrev main_call4_v0 : Ref sig .tc := ⟨.hbm, 212, rfl⟩
abbrev main_call4_v1 : Ref sig .tc := ⟨.hbm, 213, rfl⟩
abbrev main_call4_v2 : Ref sig .tc := ⟨.hbm, 214, rfl⟩
abbrev main_call4_v3 : Ref sig .tc := ⟨.hbm, 215, rfl⟩
abbrev main_call4_v4 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_cst_33 : Ref sig .tc := ⟨.hbm, 220, rfl⟩
abbrev main_cst_34 : Ref sig .tc := ⟨.hbm, 221, rfl⟩
abbrev main_call5_v0 : Ref sig .tc := ⟨.hbm, 222, rfl⟩
abbrev main_call5_v1 : Ref sig .tc := ⟨.hbm, 223, rfl⟩
abbrev main_call5_v2 : Ref sig .tc := ⟨.hbm, 224, rfl⟩
abbrev main_call5_v3 : Ref sig .tc := ⟨.hbm, 225, rfl⟩
abbrev main_call5_v4 : Ref sig .tc := ⟨.hbm, 226, rfl⟩
abbrev main_v131 : Ref sig .tc := ⟨.hbm, 227, rfl⟩
abbrev main_v132 : Ref sig .tc := ⟨.hbm, 228, rfl⟩
abbrev main_v133 : Ref sig .tc := ⟨.hbm, 229, rfl⟩
abbrev main_cst_35 : Ref sig .tc := ⟨.hbm, 230, rfl⟩
abbrev main_cst_36 : Ref sig .tc := ⟨.hbm, 231, rfl⟩
abbrev main_call6_v0 : Ref sig .tc := ⟨.hbm, 232, rfl⟩
abbrev main_call6_v1 : Ref sig .tc := ⟨.hbm, 233, rfl⟩
abbrev main_call6_v2 : Ref sig .tc := ⟨.hbm, 234, rfl⟩
abbrev main_call6_v3 : Ref sig .tc := ⟨.hbm, 235, rfl⟩
abbrev main_call6_v4 : Ref sig .tc := ⟨.hbm, 236, rfl⟩
abbrev main_v134 : Ref sig .tc := ⟨.hbm, 237, rfl⟩
abbrev main_v135 : Ref sig .tc := ⟨.hbm, 238, rfl⟩
abbrev main_v136 : Ref sig .tc := ⟨.hbm, 239, rfl⟩
abbrev main_v137 : Ref sig .tc := ⟨.hbm, 240, rfl⟩
abbrev main_v138 : Ref sig .tc := ⟨.hbm, 241, rfl⟩
abbrev main_v139 : Ref sig .tc := ⟨.hbm, 242, rfl⟩
abbrev main_v140 : Ref sig .tc := ⟨.hbm, 243, rfl⟩
abbrev main_cst_37 : Ref sig .tc := ⟨.hbm, 244, rfl⟩
abbrev main_v141 : Ref sig .tc := ⟨.hbm, 245, rfl⟩
abbrev main_v142 : Ref sig .tc := ⟨.hbm, 246, rfl⟩
abbrev main_v143 : Ref sig .tc := ⟨.hbm, 247, rfl⟩
abbrev main_cst_38 : Ref sig .tc := ⟨.hbm, 248, rfl⟩
abbrev main_v144 : Ref sig .tc := ⟨.hbm, 249, rfl⟩
abbrev main_v145 : Ref sig .tc := ⟨.hbm, 250, rfl⟩
abbrev main_cst_39 : Ref sig .tc := ⟨.hbm, 251, rfl⟩
abbrev main_v146 : Ref sig .tc := ⟨.hbm, 252, rfl⟩
abbrev main_v147 : Ref sig .tc := ⟨.hbm, 253, rfl⟩
abbrev main_cst_40 : Ref sig .tc := ⟨.hbm, 254, rfl⟩
abbrev main_v148 : Ref sig .tc := ⟨.hbm, 255, rfl⟩
abbrev main_v149 : Ref sig .tc := ⟨.hbm, 256, rfl⟩
abbrev main_v150 : Ref sig .tc := ⟨.hbm, 257, rfl⟩
abbrev main_cst_41 : Ref sig .tc := ⟨.hbm, 258, rfl⟩
abbrev main_v151 : Ref sig .tc := ⟨.hbm, 259, rfl⟩
abbrev main_v152 : Ref sig .tc := ⟨.hbm, 260, rfl⟩
abbrev main_v153 : Ref sig .tc := ⟨.hbm, 261, rfl⟩
abbrev main_cst_42 : Ref sig .tc := ⟨.hbm, 262, rfl⟩
abbrev main_v154 : Ref sig .tc := ⟨.hbm, 263, rfl⟩
abbrev main_v155 : Ref sig .tc := ⟨.hbm, 264, rfl⟩
abbrev main_v156 : Ref sig .tc := ⟨.hbm, 265, rfl⟩
abbrev main_v157 : Ref sig .tc := ⟨.hbm, 266, rfl⟩
abbrev main_cst_43 : Ref sig .tc := ⟨.hbm, 267, rfl⟩
abbrev main_v158 : Ref sig .tc := ⟨.hbm, 268, rfl⟩
abbrev main_v159 : Ref sig .tc := ⟨.hbm, 269, rfl⟩
abbrev main_v160 : Ref sig .tc := ⟨.hbm, 270, rfl⟩
abbrev main_v161 : Ref sig .tc := ⟨.hbm, 271, rfl⟩
abbrev main_v162 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_v166 : Ref sig .tc := ⟨.hbm, 276, rfl⟩
abbrev main_v167 : Ref sig .tc := ⟨.hbm, 277, rfl⟩
abbrev main_cst_44 : Ref sig .tc := ⟨.hbm, 278, rfl⟩
abbrev main_v168 : Ref sig .tc := ⟨.hbm, 279, rfl⟩
abbrev main_v169 : Ref sig .tc := ⟨.hbm, 280, rfl⟩
abbrev main_v170 : Ref sig .tc := ⟨.hbm, 281, rfl⟩
abbrev main_v171 : Ref sig .tc := ⟨.hbm, 282, rfl⟩
abbrev main_v172 : Ref sig .tc := ⟨.hbm, 283, rfl⟩
abbrev main_v173 : Ref sig .tc := ⟨.hbm, 284, rfl⟩
abbrev main_v174 : Ref sig .tc := ⟨.hbm, 285, rfl⟩
abbrev main_cst_45 : Ref sig .tc := ⟨.hbm, 286, rfl⟩
abbrev main_v175 : Ref sig .tc := ⟨.hbm, 287, rfl⟩
abbrev main_v176 : Ref sig .tc := ⟨.hbm, 288, rfl⟩
abbrev main_v177 : Ref sig .tc := ⟨.hbm, 289, rfl⟩
abbrev main_v178 : Ref sig .tc := ⟨.hbm, 290, rfl⟩
abbrev main_v179 : Ref sig .tc := ⟨.hbm, 291, rfl⟩
abbrev main_v180 : Ref sig .tc := ⟨.hbm, 292, rfl⟩
abbrev main_v181 : Ref sig .tc := ⟨.hbm, 293, rfl⟩
abbrev main_v182 : Ref sig .tc := ⟨.hbm, 294, rfl⟩
abbrev main_v183 : Ref sig .tc := ⟨.hbm, 295, rfl⟩
abbrev main_v184 : Ref sig .tc := ⟨.hbm, 296, rfl⟩
abbrev main_v185 : Ref sig .tc := ⟨.hbm, 297, rfl⟩
abbrev main_v186 : Ref sig .tc := ⟨.hbm, 298, rfl⟩
abbrev main_v187 : Ref sig .tc := ⟨.hbm, 299, rfl⟩
abbrev main_v188 : Ref sig .tc := ⟨.hbm, 300, rfl⟩
abbrev main_v189 : Ref sig .tc := ⟨.hbm, 301, rfl⟩
abbrev main_v190 : Ref sig .tc := ⟨.hbm, 302, rfl⟩
abbrev main_v191 : Ref sig .tc := ⟨.hbm, 303, rfl⟩
abbrev main_v192 : Ref sig .tc := ⟨.hbm, 304, rfl⟩
abbrev main_cst_46 : Ref sig .tc := ⟨.hbm, 305, rfl⟩
abbrev main_v193 : Ref sig .tc := ⟨.hbm, 306, rfl⟩
abbrev main_v194 : Ref sig .tc := ⟨.hbm, 307, rfl⟩
abbrev main_cst_47 : Ref sig .tc := ⟨.hbm, 308, rfl⟩
abbrev main_v195 : Ref sig .tc := ⟨.hbm, 309, rfl⟩
abbrev main_v196 : Ref sig .tc := ⟨.hbm, 310, rfl⟩
abbrev main_v197 : Ref sig .tc := ⟨.hbm, 311, rfl⟩
abbrev main_v198 : Ref sig .tc := ⟨.hbm, 312, rfl⟩
abbrev main_v199 : Ref sig .tc := ⟨.hbm, 313, rfl⟩
abbrev main_v200 : Ref sig .tc := ⟨.hbm, 314, rfl⟩
abbrev main_v201 : Ref sig .tc := ⟨.hbm, 315, rfl⟩
abbrev main_v202 : Ref sig .tc := ⟨.hbm, 316, rfl⟩
abbrev main_v203 : Ref sig .tc := ⟨.hbm, 317, rfl⟩
abbrev main_v204 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_cst_48 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_v211 : Ref sig .tc := ⟨.hbm, 326, rfl⟩
abbrev main_c_49 : Ref sig .tc := ⟨.hbm, 327, rfl⟩
abbrev main_c_50 : Ref sig .tc := ⟨.hbm, 328, rfl⟩
abbrev main_v212_0 : Ref sig .tc := ⟨.hbm, 329, rfl⟩
abbrev main_v212_1 : Ref sig .tc := ⟨.hbm, 330, rfl⟩
abbrev main_v212_2 : Ref sig .tc := ⟨.hbm, 331, rfl⟩
abbrev main_v212_3 : Ref sig .tc := ⟨.hbm, 332, rfl⟩
abbrev main_v212_4 : Ref sig .tc := ⟨.hbm, 333, rfl⟩
abbrev main_while0c_c_62 : Ref sig .tc := ⟨.hbm, 334, rfl⟩
abbrev main_while0c_v230 : Ref sig .tc := ⟨.hbm, 335, rfl⟩
abbrev main_while0b_c_62 : Ref sig .tc := ⟨.hbm, 336, rfl⟩
abbrev main_while0b_v230 : Ref sig .tc := ⟨.hbm, 337, rfl⟩
abbrev main_while0b_v231 : Ref sig .tc := ⟨.hbm, 338, rfl⟩
abbrev main_while0b_c_63 : Ref sig .tc := ⟨.hbm, 339, rfl⟩
abbrev main_while0b_v232 : Ref sig .tc := ⟨.hbm, 340, rfl⟩
abbrev main_while0b_c_64 : Ref sig .tc := ⟨.hbm, 341, rfl⟩
abbrev main_while0b_v233 : Ref sig .tc := ⟨.hbm, 342, rfl⟩
abbrev main_while0b_v234 : Ref sig .tc := ⟨.hbm, 343, rfl⟩
abbrev main_while0b_c_65 : Ref sig .tc := ⟨.hbm, 344, rfl⟩
abbrev main_while0b_c_66 : Ref sig .tc := ⟨.hbm, 345, rfl⟩
abbrev main_while0b_v235 : Ref sig .tc := ⟨.hbm, 346, rfl⟩
abbrev main_while0b_c_67 : Ref sig .tc := ⟨.hbm, 347, rfl⟩
abbrev main_while0b_c_68 : Ref sig .tc := ⟨.hbm, 348, rfl⟩
abbrev main_while0b_v236 : Ref sig .tc := ⟨.hbm, 349, rfl⟩
abbrev main_while0b_c_69 : Ref sig .tc := ⟨.hbm, 350, rfl⟩
abbrev main_while0b_v237 : Ref sig .tc := ⟨.hbm, 351, rfl⟩
abbrev main_while0b_v238 : Ref sig .tc := ⟨.hbm, 352, rfl⟩
abbrev main_while0b_v239 : Ref sig .tc := ⟨.hbm, 353, rfl⟩
abbrev main_while0b_cst_70 : Ref sig .tc := ⟨.hbm, 354, rfl⟩
abbrev main_while0b_v240 : Ref sig .tc := ⟨.hbm, 355, rfl⟩
abbrev main_while0b_v241 : Ref sig .tc := ⟨.hbm, 356, rfl⟩
abbrev main_while0b_v242 : Ref sig .tc := ⟨.hbm, 357, rfl⟩
abbrev main_while0b_v243 : Ref sig .tc := ⟨.hbm, 358, rfl⟩
abbrev main_while0b_v244 : Ref sig .tc := ⟨.hbm, 359, rfl⟩
abbrev main_while0b_v245 : Ref sig .tc := ⟨.hbm, 360, rfl⟩
abbrev main_while0b_c_71 : Ref sig .tc := ⟨.hbm, 361, rfl⟩
abbrev main_while0b_v246 : Ref sig .tc := ⟨.hbm, 362, rfl⟩
abbrev main_while0b_v247 : Ref sig .tc := ⟨.hbm, 363, rfl⟩
abbrev main_while0b_c_72 : Ref sig .tc := ⟨.hbm, 364, rfl⟩
abbrev main_while0b_v248 : Ref sig .tc := ⟨.hbm, 365, rfl⟩
abbrev main_while0b_v249 : Ref sig .tc := ⟨.hbm, 366, rfl⟩
abbrev main_while0b_v250 : Ref sig .tc := ⟨.hbm, 367, rfl⟩
abbrev main_while0b_v251 : Ref sig .tc := ⟨.hbm, 368, rfl⟩
abbrev main_while0b_v252 : Ref sig .tc := ⟨.hbm, 369, rfl⟩
abbrev main_while0b_v253 : Ref sig .tc := ⟨.hbm, 370, rfl⟩
abbrev main_while0b_v254 : Ref sig .tc := ⟨.hbm, 371, rfl⟩
abbrev main_while0b_v255 : Ref sig .tc := ⟨.hbm, 372, rfl⟩
abbrev main_while0b_c_73 : Ref sig .tc := ⟨.hbm, 373, rfl⟩
abbrev main_while0b_v256 : Ref sig .tc := ⟨.hbm, 374, rfl⟩
abbrev main_cst_51 : Ref sig .tc := ⟨.hbm, 375, rfl⟩
abbrev main_call7_v0 : Ref sig .tc := ⟨.hbm, 376, rfl⟩
abbrev main_call7_v1 : Ref sig .tc := ⟨.hbm, 377, rfl⟩
abbrev main_v213 : Ref sig .tc := ⟨.hbm, 378, rfl⟩
abbrev main_values_52 : Ref sig .tc := ⟨.hbm, 379, rfl⟩
abbrev main_indices_53 : Ref sig .tc := ⟨.hbm, 380, rfl⟩
abbrev main_c_54 : Ref sig .tc := ⟨.hbm, 381, rfl⟩
abbrev main_v214 : Ref sig .tc := ⟨.hbm, 382, rfl⟩
abbrev main_v215 : Ref sig .tc := ⟨.hbm, 383, rfl⟩
abbrev main_c_55 : Ref sig .tc := ⟨.hbm, 384, rfl⟩
abbrev main_v216 : Ref sig .tc := ⟨.hbm, 385, rfl⟩
abbrev main_v217 : Ref sig .tc := ⟨.hbm, 386, rfl⟩
abbrev main_v218 : Ref sig .tc := ⟨.hbm, 387, rfl⟩
abbrev main_v219 : Ref sig .tc := ⟨.hbm, 388, rfl⟩
abbrev main_v220 : Ref sig .tc := ⟨.hbm, 389, rfl⟩
abbrev main_c_56 : Ref sig .tc := ⟨.hbm, 390, rfl⟩
abbrev main_v221 : Ref sig .tc := ⟨.hbm, 391, rfl⟩
abbrev main_v222 : Ref sig .tc := ⟨.hbm, 392, rfl⟩
abbrev main_c_57 : Ref sig .tc := ⟨.hbm, 393, rfl⟩
abbrev main_v223 : Ref sig .tc := ⟨.hbm, 394, rfl⟩
abbrev main_v224 : Ref sig .tc := ⟨.hbm, 395, rfl⟩
abbrev main_v225 : Ref sig .tc := ⟨.hbm, 396, rfl⟩
abbrev main_v226 : Ref sig .tc := ⟨.hbm, 397, rfl⟩
abbrev main_v227 : Ref sig .tc := ⟨.hbm, 398, rfl⟩
abbrev main_v228 : Ref sig .tc := ⟨.hbm, 399, rfl⟩
abbrev main_v229 : Ref sig .tc := ⟨.hbm, 400, rfl⟩

abbrev nD : Nat := 1
abbrev τ : Topo := Topo.v7x

variable {F : FTy → Type} [FloatOps F]

abbrev main_while0_count : Scf.Loop 32 := ⟨0#32, 1000#32, 1#32⟩
-- ==== Proof.Picks.lean ====
/-
  The word side of the suppression loop: the position counter of an 8 x 128 block, the least marked position
  (`firstW`), and the marks that remain after some picks.
-/
module

public import proofs.«01_k».proof.Proof.Gen.KernelIdeal.Skeleton
public import Idealize.ShloMosaic.Lib.SortNet.Extract
public import Idealize.ShloMosaic.PureOps.Reduce
public import Idealize.ShloMosaic.Lib.Pipeline.Value
public import Idealize.ShloMosaic.Lib.Pointwise

@[expose] public section

set_option maxRecDepth 16384

noncomputable section

namespace Cert.Proof.Run

open Cert.KernelIdeal Cert.KernelIdeal.Gen
open Idealize.ShloMosaic

/-- A fold of the signed minimum over a set is at most the start and every word met, and is one of them. -/
theorem fold_minsi_spec {ι : Type} [DecidableEq ι] (g : ι → BitVec 32) (s : Finset ι) (init : BitVec 32) :
    (s.fold IntOp.minsi init g).toInt ≤ init.toInt ∧ (∀ i ∈ s, (s.fold IntOp.minsi init g).toInt ≤ (g i).toInt) ∧
      (s.fold IntOp.minsi init g = init ∨ ∃ i ∈ s, s.fold IntOp.minsi init g = g i) := by
  induction s using Finset.induction_on with
  | empty => simp
  | insert a s has ih =>
    obtain ⟨h1, h2, h3⟩ := ih
    rw [Finset.fold_insert has]
    have hm := SortNet.toInt_minsi (g a) (s.fold IntOp.minsi init g)
    refine ⟨by rw [hm]; omega, fun i hi => ?_, ?_⟩
    · rcases Finset.mem_insert.mp hi with rfl | hi
      · rw [hm]; omega
      · have := h2 i hi; rw [hm]; omega
    · rcases le_total (g a).toInt (s.fold IntOp.minsi init g).toInt with h | h
      · exact .inr ⟨a, Finset.mem_insert_self a s, BitVec.eq_of_toInt_eq (by rw [hm]; omega)⟩
      · have e : IntOp.minsi (g a) (s.fold IntOp.minsi init g) = s.fold IntOp.minsi init g :=
          BitVec.eq_of_toInt_eq (by rw [hm]; omega)
        rw [e]
        rcases h3 with h3 | ⟨i, hi, h3⟩
        · exact .inl h3
        · exact .inr ⟨i, Finset.mem_insert_of_mem hi, h3⟩

/-- The position an index of the 8 x 128 block stands for, row by row. -/
def posOf (i : S8x128.Idx) : ℕ := (i 0).val * 128 + (i 1).val

theorem posOf_lt (i : S8x128.Idx) : posOf i < 1024 := by
  have h0 : (i 0).val < 8 := (i 0).isLt
  have h1 : (i 1).val < 128 := (i 1).isLt
  unfold posOf; omega

/-- Different lanes have different positions. -/
theorem posOf_inj {i j : S8x128.Idx} (h : posOf i = posOf j) : i = j := by
  have h1 : (i 1).val < 128 := (i 1).isLt
  have h2 : (j 1).val < 128 := (j 1).isLt
  unfold posOf at h
  refine Shape.idx_ext₂ ?_ ?_ <;> omega

/-- The index standing for a position. -/
def laneOf (p : ℕ) (hp : p < 1024) : S8x128.Idx := ix2 (n0 := 8) (n1 := 128) ⟨p / 128, by omega⟩ ⟨p % 128, by omega⟩

theorem posOf_laneOf (p : ℕ) (hp : p < 1024) : posOf (laneOf p hp) = p := by
  show p / 128 * 128 + p % 128 = p
  omega

/-- The kernel's position counter at an index is its position. -/
theorem pay1_apply (i : S8x128.Idx) : k1_pay1 i = BitVec.ofNat 32 (posOf i) := by
  unfold k1_pay1 posOf
  idx_vars i
  pointwise
  apply BitVec.eq_of_toNat_eq
  have := i0.isLt; have := i1.isLt
  simp only [IntOp.addi, IntOp.muli, BitVec.toNat_add, BitVec.toNat_mul, BitVec.toNat_ofNat]
  omega

/-- A block of one word has one index. -/
theorem S1_sub (x y : S1.Idx) : x = y := by
  have hs : ∀ a : Fin 1, S1.size a = 1 := by decide
  refine funext fun a => Fin.ext ?_
  have h1 : (x a).val < 1 := lt_of_lt_of_eq (x a).isLt (hs a)
  have h2 : (y a).val < 1 := lt_of_lt_of_eq (y a).isLt (hs a)
  omega

/-- The word minimum of a 1 x 8 x 128 block is at most every word of it and is one of them. -/
theorem red_spec (src : IVec S1x8x128 32) (hacc : 2147483647#32 = IKind.minsi.neutral) (j : S1.Idx) :
    (∀ i, (multiReductionI .minsi [1, 2] S1 src 2147483647#32 reduces_S1x8x128_S1 hacc j).toInt ≤ (src i).toInt) ∧
      ∃ i, multiReductionI .minsi [1, 2] S1 src 2147483647#32 reduces_S1x8x128_S1 hacc j = src i := by
  rw [multiReductionI_eq_fold, Finset.filter_true_of_mem
    (fun i _ => S1_sub _ _)]
  obtain ⟨h1, h2, h3⟩ := fold_minsi_spec src Finset.univ 2147483647#32
  change (∀ i, (Finset.univ.fold IntOp.minsi 2147483647#32 src).toInt ≤ (src i).toInt) ∧ ∃ i, Finset.univ.fold IntOp.minsi 2147483647#32 src = src i
  refine ⟨fun i => h2 i (Finset.mem_univ i), ?_⟩
  rcases h3 with h3 | ⟨i, -, h3⟩
  · have i : S1x8x128.Idx := ix3 (n0 := 1) (n1 := 8) (n2 := 128) 0 0 0
    refine ⟨i, ?_⟩
    rw [h3]
    have := h2 i (Finset.mem_univ _)
    rw [h3] at this
    generalize src _ = w at this ⊢
    exact BitVec.eq_of_toInt_eq (le_antisymm this (by have := BitVec.toInt_lt (x := w); simp at this ⊢; omega))
  · exact ⟨i, h3⟩

/-- The least marked position of a block of marks, 4096 when there is none. -/
def firstW (m : IVec S8x128 32) : BitVec 32 := extractAt ![0, 0, 0] (k1_pay14 k1_pay1 m) inpos_S1x1x1_p0_0_0

theorem firstW_spec (m : IVec S8x128 32) :
    (∀ i, m i ≠ 0#32 → (firstW m).toInt ≤ posOf i) ∧ (firstW m).toInt ≤ 4096 ∧
      (firstW m = 4096#32 ∨ ∃ i, m i ≠ 0#32 ∧ firstW m = BitVec.ofNat 32 (posOf i)) := by
  have key : ∀ i, (select (k1_pay12 m) k1_pay1 (broadcast S8x128 4096#32)) i = if m i ≠ 0#32 then BitVec.ofNat 32 (posOf i) else 4096#32 := by
    intro i
    rw [← pay1_apply]
    unfold k1_pay12
    pointwise
    by_cases h : m i = 0#32
    · simp [h, IntOp.cmpi, Scalar.select]
    · have hb : (m i != 0#32) = true := by simpa using h
      simp [h, hb, IntOp.cmpi, Scalar.select]
  have hn : ∀ i : S8x128.Idx, (BitVec.ofNat 32 (posOf i)).toInt = posOf i := fun i => by
    have := posOf_lt i
    rw [BitVec.toInt_eq_toNat_of_lt] <;> rw [BitVec.toNat_ofNat] <;> omega
  obtain ⟨j, hj⟩ : ∃ j, firstW m = multiReductionI .minsi [1, 2] S1 (shapeCast S1x8x128 (select (k1_pay12 m) k1_pay1 (broadcast S8x128 4096#32)) shapeCasts_S8x128_S1x8x128)
      2147483647#32 reduces_S1x8x128_S1 rfl j := ⟨_, rfl⟩
  obtain ⟨h1, i, h2⟩ := red_spec (shapeCast S1x8x128 (select (k1_pay12 m) k1_pay1 (broadcast S8x128 4096#32)) shapeCasts_S8x128_S1x8x128) rfl j
  have h2' : firstW m = (select (k1_pay12 m) k1_pay1 (broadcast S8x128 4096#32)) (Shape.reshapeEquiv shapeCasts_S8x128_S1x8x128 i) := hj.trans h2
  have h1' : ∀ i, (firstW m).toInt ≤ ((select (k1_pay12 m) k1_pay1 (broadcast S8x128 4096#32)) i).toInt := fun i => by
    have := h1 ((Shape.reshapeEquiv shapeCasts_S8x128_S1x8x128).symm i)
    rw [hj]
    refine this.trans (le_of_eq ?_)
    show BitVec.toInt (select _ _ _ (Shape.reshapeEquiv shapeCasts_S8x128_S1x8x128 _)) = _
    rw [Equiv.apply_symm_apply]
  rw [key] at h2'
  refine ⟨fun i hi => ?_, ?_, ?_⟩
  · have := h1' i
    rwa [key, if_pos hi, hn] at this
  · rw [h2']
    split_ifs with h
    · rw [hn]; have := posOf_lt (Shape.reshapeEquiv shapeCasts_S8x128_S1x8x128 i); omega
    · decide
  · split_ifs at h2' with h
    · exact .inr ⟨_, h, h2'⟩
    · exact .inl h2'

/-- The second reduction of a trip finds the least marked position too. -/
theorem pay15_eq (m : IVec S8x128 32) : extractAt ![0, 0, 0] (k1_pay15 k1_pay1 m) inpos_S1x1x1_p0_0_0 = firstW m := rfl

/-- With a mark there is a least marked index. -/
theorem firstW_of_marked (m : IVec S8x128 32) (h : ∃ i, m i ≠ 0#32) :
    ∃ i, m i ≠ 0#32 ∧ firstW m = BitVec.ofNat 32 (posOf i) ∧ ∀ i', m i' ≠ 0#32 → posOf i ≤ posOf i' := by
  obtain ⟨h1, -, h3⟩ := firstW_spec m
  have hn : ∀ i : S8x128.Idx, (BitVec.ofNat 32 (posOf i)).toInt = posOf i := fun i => by
    have := posOf_lt i
    rw [BitVec.toInt_eq_toNat_of_lt] <;> rw [BitVec.toNat_ofNat] <;> omega
  rcases h3 with h3 | ⟨i, hi, h3⟩
  · obtain ⟨i, hi⟩ := h
    have := h1 i hi
    rw [h3] at this
    have := posOf_lt i
    have : (4096#32).toInt = 4096 := rfl
    omega
  · refine ⟨i, hi, h3, fun i' hi' => ?_⟩
    have := h1 i' hi'
    rw [h3, hn] at this
    omega

/-- Without a mark the answer is 4096. -/
theorem firstW_of_unmarked (m : IVec S8x128 32) (h : ∀ i, m i = 0#32) : firstW m = 4096#32 := by
  rcases (firstW_spec m).2.2 with h3 | ⟨i, hi, -⟩
  · exact h3
  · exact absurd (h i) hi

/-- Whether the first mark of `a` is there. -/
def hasW (a : IVec S8x128 32) : BitVec 1 := Scalar.cmpi .slt (firstW a) 4096#32

/-- The position a trip takes: the first mark of `a`, else the first of `r`. -/
def pickW (a r : IVec S8x128 32) : BitVec 32 := Scalar.select (hasW a) (firstW a) (firstW r)

theorem hasW_marked (a : IVec S8x128 32) (h : ∃ i, a i ≠ 0#32) : hasW a = 1#1 := by
  obtain ⟨i, -, h, -⟩ := firstW_of_marked a h
  unfold hasW
  rw [h]
  have hl := posOf_lt i
  generalize posOf i = p at hl
  show BitVec.ofBool (BitVec.slt _ _) = BitVec.ofBool true
  congr 1
  have e : (BitVec.ofNat 32 p).toInt = p := by rw [BitVec.toInt_eq_toNat_of_lt] <;> rw [BitVec.toNat_ofNat] <;> omega
  rw [BitVec.slt, e]
  simp only [decide_eq_true_eq]
  show (p : ℤ) < 4096
  omega

/-- With no lane marked there is none to take. -/
theorem hasW_unmarked (a : IVec S8x128 32) (h : ∀ i, a i = 0#32) : hasW a = 0#1 := by
  unfold hasW
  rw [firstW_of_unmarked a h]
  rfl

/-- A trip's position is a marked one of `a` if there is one, else the least marked one of `r`. -/
theorem pickW_spec (a r : IVec S8x128 32) (hr : ∃ i, r i ≠ 0#32) :
    ∃ i, pickW a r = BitVec.ofNat 32 (posOf i) ∧
      ((hasW a = 1#1 ∧ a i ≠ 0#32 ∧ ∀ i', a i' ≠ 0#32 → posOf i ≤ posOf i') ∨
        (hasW a = 0#1 ∧ (∀ i', a i' = 0#32) ∧ r i ≠ 0#32 ∧ ∀ i', r i' ≠ 0#32 → posOf i ≤ posOf i')) := by
  by_cases h : ∃ i, a i ≠ 0#32
  · obtain ⟨i, h1, h2, h3⟩ := firstW_of_marked a h
    refine ⟨i, ?_, .inl ⟨hasW_marked a h, h1, h3⟩⟩
    unfold pickW
    rw [hasW_marked a h, h2]; rfl
  · have h' : ∀ i, a i = 0#32 := fun i => by_contra fun hi => h ⟨i, hi⟩
    obtain ⟨i, h1, h2, h3⟩ := firstW_of_marked r hr
    refine ⟨i, ?_, .inr ⟨hasW_unmarked a h', h', h1, h3⟩⟩
    unfold pickW
    rw [hasW_unmarked a h', h2]; rfl

/-- A pick below 1024 is a row of the candidates' table. -/
theorem chk_of_lt (x y : BitVec 32) (h : (Scalar.select (Scalar.cmpi .slt x 4096#32) x y).toNat < 1024) : k1_chk1 x y := by
  intro a
  fin_cases a
  · exact h
  · exact le_refl _

/-- The side condition of a trip's row load: it holds of every pick. -/
theorem chk_of_marked (a r : IVec S8x128 32) (hr : ∃ i, r i ≠ 0#32) :
    k1_chk1 (extractAt ![0, 0, 0] (k1_pay14 k1_pay1 a) inpos_S1x1x1_p0_0_0) (extractAt ![0, 0, 0] (k1_pay15 k1_pay1 r) inpos_S1x1x1_p0_0_0) := by
  obtain ⟨i, h, -⟩ := pickW_spec a r hr
  have hl := posOf_lt i
  have e : (pickW a r).toNat = posOf i := by rw [h, BitVec.toNat_ofNat]; omega
  rw [pay15_eq]
  exact chk_of_lt (firstW a) (firstW r) (e ▸ hl)

end Cert.Proof.Run

end
-- ==== Proof.ScoreBody.lean ====
/-
  The body of the first kernel call (`_scores_body`), run once from its three staging buffers held whole: the inputs
  come back as they were and the result's buffer reads as the payload `k0_pay1` of the two inputs.
-/
module

public import proofs.«01_k».proof.Proof.Gen.KernelIdeal.Launch
public import proofs.«01_k».proof.Proof.Gen.KernelIdeal.Skeleton
public import Idealize.ShloMosaic.Lib.Tactic
public import Idealize.ShloMosaic.Lib.Pipeline.Kit
public import Idealize.ShloMosaic.Lib.Pipeline.Value
public import Idealize.ShloMosaic.Lib.VecWindow
public import Idealize.ShloMosaic.Lib.Writes

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of memref `M`'s buffer on core `c`, and that buffer held whole at `f`. -/
abbrev Bf (c : Dev nD) {sp : Space} {S : Shape} {e : EltTy} (M : Memref sig .tc sp S e) : Type :=
  Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The zero offsets of a rank-two block, as the constant function. -/
theorem off00 : (![0, 0] : Fin 2 → Nat) = fun _ => 0 := funext fun a => by fin_cases a <;> rfl

/-- What the scores body leaves in its result's buffer, found by the run. -/
def scoreRun (c : Dev nD) (M0 : Memref sig .tc .vmem S80x20480 .f32) (h0 : M0.IsWhole)
    (M1 : Memref sig .tc .vmem S1x20480 .f32) (h1 : M1.IsWhole) (M2 : Memref sig .tc .vmem S80x20480 .f32) (h2 : M2.IsWhole)
    (f0 : Bf (F := F) c M0) (f1 : Bf (F := F) c M1) :
    { W : Bf (F := F) c M2 // ∀ (f2 : Bf (F := F) c M2) (E : Set ℕ) (Q : PUnit → sProp 𝕄),
        iprop(pt c M0 f0 ∗ pt c M1 f1 ∗ pt c M2 f2 ∗ (iprop(pt c M0 f0 ∗ pt c M1 f1 ∗ pt c M2 W) -∗ Q ⟨⟩))
          ⊢ wp frame (wpE (defs₀ (F := F)) Variants.none c none) E (cc0__scores_body M0 h0 M1 h1 M2 h2) Q } := by
  refine ⟨?_, fun f2 E Q => ?run⟩
  case run =>
    iintro ⟨H0, H1, H2, Hk⟩
    sl_exec!
    sl_step
    iapply Hk
    isplitl [H0]; · iexact H0
    isplitl [H1]; · iexact H1
    iexact H2

/-- The result's buffer, read: the payload of the two inputs' contents. -/
theorem scoreRun_read (c : Dev nD) (M0 : Memref sig .tc .vmem S80x20480 .f32) (h0 : M0.IsWhole)
    (M1 : Memref sig .tc .vmem S1x20480 .f32) (h1 : M1.IsWhole) (M2 : Memref sig .tc .vmem S80x20480 .f32) (h2 : M2.IsWhole)
    (f0 : Bf (F := F) c M0) (f1 : Bf (F := F) c M1) :
    M2.view.read (Elt F) (scoreRun c M0 h0 M1 h1 M2 h2 f0 f1).1
      = k0_pay1 (M0.view.read (Elt F) f0) (M1.view.read (Elt F) f1) := by
  unfold scoreRun
  dsimp only
  sl_unfold_words
  rw [View.read_writes_full M2.view _ (off := ![0, 0]) inb_S80x20480_S80x20480_0_0 _ []]
  simp only [View.readAt_eq_ld, View.ld_unit_zero (S := S80x20480) off00, View.ld_unit_zero (S := S1x20480) off00]

end Cert.Proof.Run

end
-- ==== Proof.NmsLoop.lean ====
/-
  The suppression loop of the second kernel call (`_nms_body`), at any float instance: the state one trip hands the
  next, the row it stores, and the loop's invariant.
-/
module

public import proofs.«01_k».proof.Proof.Picks
public import proofs.«01_k».proof.Proof.ScoreBody
public import proofs.«01_k».proof.Proof.Gen.KernelIdeal.Loops
public import Idealize.ShloMosaic.Lib.WritesUnit

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two blocks of marks a trip carries: the candidates still active, the candidates not taken yet. -/
abbrev Marks : Type := IVec S8x128 32 × IVec S8x128 32

/-- The candidates' row at a position. -/
def rowAt (X : S1024x16.Idx → F .f32) (w : BitVec 32) : Vec F S1x16 .f32 :=
  fun y => X (ix2 (n0 := 1024) (n1 := 16) ⟨w.toNat % 1024, Nat.mod_lt _ (by decide)⟩ (y 1))

/-- The active marks after a trip that takes the position `pickW a r`. -/
def nextA (X : S1024x16.Idx → F .f32) (v5 v7 v9 v11 v13 : Vec F S8x128 .f32) (s : Marks) : IVec S8x128 32 :=
  k1_pay10 (k1_pay29 k1_pay1 (k1_pay5 v11) (k1_pay6 v13) (k1_pay12 s.1) (hasW s.1) (pickW s.1 s.2)
    (k1_pay21 (rowAt X (pickW s.1 s.2))) (k1_pay24 (k1_pay2 v5) (rowAt X (pickW s.1 s.2)))
    (k1_pay25 (k1_pay3 v7) (rowAt X (pickW s.1 s.2))) (k1_pay26 (k1_pay4 v9) (rowAt X (pickW s.1 s.2)))
    (k1_pay27 (rowAt X (pickW s.1 s.2))))

/-- The untaken marks after that trip. -/
def nextR (s : Marks) : IVec S8x128 32 := k1_pay11 (k1_pay30 k1_pay1 (k1_pay13 s.2) (pickW s.1 s.2))

/-- The row that trip stores. -/
def outRow (X : S1024x16.Idx → F .f32) (s : Marks) : FVec F S1x8 .f32 :=
  k1_pay9 (k1_pay17 (rowAt X (pickW s.1 s.2))) (k1_pay18 (rowAt X (pickW s.1 s.2))) (k1_pay19 (rowAt X (pickW s.1 s.2)))
    (k1_pay20 (rowAt X (pickW s.1 s.2))) (k1_pay23 (rowAt X (pickW s.1 s.2)))
    (k1_pay31 (hasW s.1) (k1_pay22 (rowAt X (pickW s.1 s.2)))) k1_pay32 k1_pay33 k1_pay34 k1_pay35 k1_pay36 k1_pay37
    (Scalar.ofBits .f32 0x00000000#32)

/-- One trip on the marks. -/
def stepM (X : S1024x16.Idx → F .f32) (v5 v7 v9 v11 v13 : Vec F S8x128 .f32) (s : Marks) : Marks :=
  (nextA X v5 v7 v9 v11 v13 s, nextR s)

/-- The marks before trip `k`. -/
def stM (X : S1024x16.Idx → F .f32) (v5 v7 v9 v11 v13 : Vec F S8x128 .f32) (init : Marks) (k : ℕ) : Marks :=
  (stepM X v5 v7 v9 v11 v13)^[k] init

/-- The marked indices of a block. -/
def marked (m : IVec S8x128 32) : Finset S8x128.Idx := Finset.univ.filter fun i => m i ≠ 0#32

theorem nextR_ne (s : Marks) (i : S8x128.Idx) : nextR s i ≠ 0#32 ↔ s.2 i ≠ 0#32 ∧ BitVec.ofNat 32 (posOf i) ≠ pickW s.1 s.2 := by
  rw [← pay1_apply]
  unfold nextR k1_pay11 k1_pay30 k1_pay28 k1_pay13
  pointwise
  generalize k1_pay1 i = p
  generalize s.2 i = q
  generalize pickW s.1 s.2 = w
  by_cases h1 : q = 0#32
  · subst h1; simp [IntOp.cmpi, IntOp.andi]
  · have hb : (q != 0#32) = true := by simpa using h1
    by_cases h2 : p = w
    · subst h2; simp [IntOp.cmpi, IntOp.andi]
    · have hc : (p != w) = true := by simpa using h2
      simp [IntOp.cmpi, IntOp.andi, hb, hc, h1, h2]

/-- A trip takes one position at most away from the untaken ones. -/
theorem card_nextR (s : Marks) : (marked s.2).card ≤ (marked (nextR s)).card + 1 := by
  by_cases h : ∃ i, BitVec.ofNat 32 (posOf i) = pickW s.1 s.2
  · obtain ⟨i, hi⟩ := h
    have : marked s.2 ⊆ insert i (marked (nextR s)) := by
      intro j hj
      simp only [marked, Finset.mem_filter, Finset.mem_univ, true_and] at hj
      by_cases hji : j = i
      · exact Finset.mem_insert.mpr (.inl hji)
      · refine Finset.mem_insert_of_mem ?_
        simp only [marked, Finset.mem_filter, Finset.mem_univ, true_and]
        refine (nextR_ne s j).mpr ⟨hj, fun h => hji (posOf_inj ?_)⟩
        rw [← hi] at h
        have h1 := posOf_lt i
        have h2 := posOf_lt j
        have := congrArg BitVec.toNat h
        rw [BitVec.toNat_ofNat, BitVec.toNat_ofNat] at this
        omega
    exact (Finset.card_le_card this).trans (Finset.card_insert_le _ _)
  · refine (Finset.card_le_card fun j hj => ?_).trans (Nat.le_succ _)
    simp only [marked, Finset.mem_filter, Finset.mem_univ, true_and] at hj ⊢
    exact (nextR_ne s j).mpr ⟨hj, fun h' => h ⟨j, h'⟩⟩

/-- The first untaken marks: the positions below 1000. -/
theorem pay8_ne (i : S8x128.Idx) : k1_pay8 i ≠ 0#32 ↔ posOf i < 1000 := by
  have hl := posOf_lt i
  unfold k1_pay8
  pointwise
  rw [pay1_apply]
  generalize posOf i = p at hl
  have e : (BitVec.ofNat 32 p).toInt = p := by rw [BitVec.toInt_eq_toNat_of_lt] <;> rw [BitVec.toNat_ofNat] <;> omega
  have hs : BitVec.slt (BitVec.ofNat 32 p) 1000#32 = decide (p < 1000) := by
    rw [BitVec.slt, e]
    refine decide_eq_decide.mpr ?_
    show (p : ℤ) < 1000 ↔ _
    omega
  by_cases h : p < 1000
  · simp [IntOp.cmpi, hs, h]
  · simp [IntOp.cmpi, hs, h]

/-- At least a thousand lanes are marked at the start. -/
theorem card_pay8 : 1000 ≤ (marked k1_pay8).card := by
  have : ((Finset.range 1000).attach.image fun p => laneOf p.1 (by have := Finset.mem_range.mp p.2; omega)) ⊆ marked k1_pay8 := by
    intro i hi
    obtain ⟨p, -, rfl⟩ := Finset.mem_image.mp hi
    simp only [marked, Finset.mem_filter, Finset.mem_univ, true_and]
    refine (pay8_ne _).mpr ?_
    rw [posOf_laneOf]
    exact Finset.mem_range.mp p.2
  refine le_trans (le_of_eq ?_) (Finset.card_le_card this)
  rw [Finset.card_image_of_injective, Finset.card_attach, Finset.card_range]
  intro p q h
  have := congrArg posOf h
  simp only [posOf_laneOf] at this
  exact Subtype.ext this

/-- What holds of the output block and the carried marks before trip `k`. -/
def NmsInv (X : S1024x16.Idx → F .f32) (v5 v7 v9 v11 v13 : Vec F S8x128 .f32) (init : Marks) (k : ℕ)
    (R : S100x8.Idx → F .f32) (s : Marks) : Prop :=
  s = stM X v5 v7 v9 v11 v13 init k ∧ 1000 ≤ (marked s.2).card + k ∧
    ∀ y : S100x8.Idx, (y 0).val < k → R y = outRow X (stM X v5 v7 v9 v11 v13 init (y 0).val) (ix2 (n0 := 1) (n1 := 8) 0 (y 1))

/-- A row loaded at the offsets of two words is the table's row at the word selected. -/
theorem load_words {c : Dev nD} (arg0 : Memref sig .tc .vmem S1024x16 .f32) (f0 : Bf (F := F) c arg0) (u w : BitVec 32)
    (e : (Scalar.select (Scalar.cmpi .slt u 4096#32) u w).toNat < 1024) (h : ∀ x, k1_off1 u w x + S1x16.size x ≤ S1024x16.size x) :
    View.readAt (Elt F) arg0.view (Rect.unit (s := S1024x16) (k1_off1 u w) S1x16.size h).toLoadRect f0
      = rowAt (arg0.view.read (Elt F) f0) (Scalar.select (Scalar.cmpi .slt u 4096#32) u w) := by
  rw [View.readAt_eq_ld]
  funext y
  unfold rowAt
  have hy : (y 0).val < 1 := (y 0).isLt
  refine congrArg (arg0.view.read (Elt F) f0) (Shape.idx_ext₂ ?_ ?_)
  · show (Scalar.select (Scalar.cmpi .slt u 4096#32) u w).toNat + 1 * (y 0).val = (Scalar.select (Scalar.cmpi .slt u 4096#32) u w).toNat % 1024
    rw [Nat.mod_eq_of_lt e]; omega
  · show 0 + 1 * (y 1).val = (y 1).val
    omega

/-- The row a trip loads is the candidates' row at the position it takes. -/
theorem load_row {c : Dev nD} (arg0 : Memref sig .tc .vmem S1024x16 .f32) (f0 : Bf (F := F) c arg0) (a r : IVec S8x128 32)
    (hr : ∃ i, r i ≠ 0#32)
    (h : ∀ x, k1_off1 (firstW a) (firstW r) x + S1x16.size x ≤ S1024x16.size x) :
    View.readAt (Elt F) arg0.view (Rect.unit (s := S1024x16) (k1_off1 (firstW a) (firstW r)) S1x16.size h).toLoadRect f0
      = rowAt (arg0.view.read (Elt F) f0) (pickW a r) := by
  obtain ⟨i, hi, -⟩ := pickW_spec a r hr
  have hl := posOf_lt i
  have e : (pickW a r).toNat < 1024 := by rw [hi, BitVec.toNat_ofNat]; omega
  exact load_words arg0 f0 (firstW a) (firstW r) e h

/-- One trip keeps what the invariant says. -/
theorem nms_step (X : S1024x16.Idx → F .f32) (v5 v7 v9 v11 v13 : Vec F S8x128 .f32) (init : Marks) (k : Fin k1_t1_loop.trips)
    {c : Dev nD} (arg7 : Memref sig .tc .vmem S100x8 .f32) (f : Bf (F := F) c arg7) (a r : IVec S8x128 32)
    (hP : NmsInv X v5 v7 v9 v11 v13 init k.val (arg7.view.read (Elt F) f) (a, r))
    (v44 : Vec F S1x16 .f32) (hv : v44 = rowAt X (pickW a r)) :
    NmsInv X v5 v7 v9 v11 v13 init (k.val + 1)
      (arg7.view.read (Elt F) (arg7.view.writes (Elt F) f [⟨Rect.unit (s := S100x8) (k1_off2 k) S1x8.size (k1_off2_inb k),
        k1_pay9 (k1_pay17 v44) (k1_pay18 v44) (k1_pay19 v44) (k1_pay20 v44) (k1_pay23 v44)
          (k1_pay31 (hasW a) (k1_pay22 v44)) k1_pay32 k1_pay33 k1_pay34 k1_pay35 k1_pay36 k1_pay37 (Scalar.ofBits .f32 0x00000000#32)⟩]))
      (k1_pay10 (k1_pay29 k1_pay1 (k1_pay5 v11) (k1_pay6 v13) (k1_pay12 a) (hasW a) (pickW a r) (k1_pay21 v44)
          (k1_pay24 (k1_pay2 v5) v44) (k1_pay25 (k1_pay3 v7) v44) (k1_pay26 (k1_pay4 v9) v44) (k1_pay27 v44)),
        k1_pay11 (k1_pay30 k1_pay1 (k1_pay13 r) (pickW a r))) := by
  subst hv
  obtain ⟨h1, h2, h3⟩ := hP
  have hk : k.val < 100 := k.isLt
  have hoff : k1_off2 k = ![k.val, 0] := by
    have e : k1_off2 k = ![(BitVec.ofNat 32 k.val).toNat, 0] := by
      unfold k1_off2 Scf.iv
      simp [Scalar.indexCast]
    rw [e, BitVec.toNat_ofNat, Nat.mod_eq_of_lt (by omega)]
  refine ⟨?_, ?_, fun y hy => ?_⟩
  · rw [stM, Function.iterate_succ_apply', ← stM, ← h1]
    rfl
  · have := card_nextR (a, r)
    change 1000 ≤ (marked (nextR (a, r))).card + (k.val + 1)
    change 1000 ≤ (marked r).card + k.val at h2
    change (marked r).card ≤ (marked (nextR (a, r))).card + 1 at this
    omega
  · by_cases hyk : (y 0).val < k.val
    · rw [View.read_writes_cons_rows_of_not_mem arg7.view f (d := ![100, 8]) (k1_off2_inb k) _ [] y hoff rfl (.inl hyk)]
      exact h3 y hyk
    · have e : (y 0).val = k.val := by omega
      rw [View.read_writes_cons_rows_of_mem arg7.view f (d := ![100, 8]) (k1_off2_inb k) _ [] y (ix2 (n0 := 1) (n1 := 8) 0 (y 1)) hoff
        (by rw [e]; rfl) rfl, e, ← h1]
      rfl

set_option warn.classDefReducibility false in
/-- The loop's invariant: the candidates' table unchanged, the output block's first `k` rows the rows of the trips. -/
@[sl_loop] def loopInv_k1_t1 (c : Dev nD) (arg0 : Memref sig .tc .vmem S1024x16 .f32) (harg0 : arg0.IsWhole) (arg1 : Memref sig .tc .vmem S8x128 .f32) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S100x8 .f32) (harg7 : arg7.IsWhole)
    (f0 : Bf (F := F) c arg0) (v5 : Vec F S8x128 .f32) (v7 : Vec F S8x128 .f32) (v9 : Vec F S8x128 .f32) (v11 : Vec F S8x128 .f32) (v13 : Vec F S8x128 .f32) (init : IVec S8x128 32 × IVec S8x128 32) :
    Cert.KernelIdeal.Gen.LoopInvTy_k1_t1 (F := F) Unit ℕ (UR sig nD τ) ℕ Variants.none c none Set.univ arg0 harg0 arg1 harg1 arg2 harg2 arg3 harg3 arg4 harg4 arg5 harg5 arg6 harg6 arg7 harg7 v5 v7 v9 v11 v13 init where
  inv := fun k acc => iprop(pt c arg0 f0 ∗ ∃ f, pt c arg7 f ∗
    ⌜NmsInv (arg0.view.read (Elt F) f0) v5 v7 v9 v11 v13 init k (arg7.view.read (Elt F) f) acc⌝)
  step := fun k acc => by
    obtain ⟨a, r⟩ := acc
    unfold Gen.k1_t1_body
    iintro ⟨H0, %f, H7, %hP⟩
    have hr : ∃ i, r i ≠ 0#32 := by
      by_contra hne
      have h0 : (marked r).card = 0 := by
        rw [Finset.card_eq_zero, marked, Finset.filter_eq_empty_iff]
        exact fun i _ hi => hne ⟨i, hi⟩
      have := hP.2.1
      have hk : k.val < 100 := k.isLt
      simp only [h0] at this
      omega
    have hchk := chk_of_marked a r hr
    sl_exec_parts
    sl_step
    isplitl [H0]; · iexact H0
    iexists _
    isplitl [H7]; · iexact H7
    ipureintro
    exact nms_step _ v5 v7 v9 v11 v13 init k arg7 f a r hP _ (load_row arg0 f0 a r hr _)

end Cert.Proof.Run

end
-- ==== Proof.NmsBody.lean ====
/-
  The body of the second kernel call (`_nms_body`), run once from its eight staging buffers held whole, at any float
  instance: the inputs come back as they were, and the output block's row `j` is the row trip `j` stores.
-/
module

public import proofs.«01_k».proof.Proof.NmsLoop

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The 100 x 8 block the kernel leaves, from its seven inputs: row `j` is what trip `j` stores. -/
def nmsOut (X : S1024x16.Idx → F .f32) (x1 y1 x2 y2 ar ac : S8x128.Idx → F .f32) : S100x8.Idx → F .f32 :=
  fun y => outRow X (stM X x1 y1 x2 y2 ar (k1_pay7 ac, k1_pay8) (y 0).val) (ix2 (n0 := 1) (n1 := 8) 0 (y 1))

/-- Before the first trip the invariant holds of any output block. -/
theorem nms_inv0 (X : S1024x16.Idx → F .f32) (v5 v7 v9 v11 v13 : Vec F S8x128 .f32) (a : IVec S8x128 32) (R : S100x8.Idx → F .f32) :
    NmsInv X v5 v7 v9 v11 v13 (a, k1_pay8) 0 R (a, k1_pay8) :=
  ⟨rfl, card_pay8, fun _ h => absurd h (Nat.not_lt_zero _)⟩

/-- What a load of a whole 8 x 128 block reads. -/
abbrev ldW (c : Dev nD) (M : Memref sig .tc .vmem S8x128 .f32) (f : Bf (F := F) c M) : Vec F S8x128 .f32 :=
  View.readAt (Elt F) M.view (Rect.unit (s := S8x128) ![0, 0] S8x128.size inb_S8x128_S8x128_0_0).toLoadRect f

/-- A plane loaded whole is its contents. -/
theorem ldW_eq (c : Dev nD) (M : Memref sig .tc .vmem S8x128 .f32) (f : Bf (F := F) c M) : ldW c M f = M.view.read (Elt F) f := by
  rw [ldW, View.readAt_eq_ld, View.ld_unit_zero (S := S8x128) off00]

/-- The body's run. -/
theorem nms_run (c : Dev nD) (M0 : Memref sig .tc .vmem S1024x16 .f32) (h0 : M0.IsWhole)
    (M1 : Memref sig .tc .vmem S8x128 .f32) (h1 : M1.IsWhole) (M2 : Memref sig .tc .vmem S8x128 .f32) (h2 : M2.IsWhole)
    (M3 : Memref sig .tc .vmem S8x128 .f32) (h3 : M3.IsWhole) (M4 : Memref sig .tc .vmem S8x128 .f32) (h4 : M4.IsWhole)
    (M5 : Memref sig .tc .vmem S8x128 .f32) (h5 : M5.IsWhole) (M6 : Memref sig .tc .vmem S8x128 .f32) (h6 : M6.IsWhole)
    (M7 : Memref sig .tc .vmem S100x8 .f32) (h7 : M7.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (f7 : Bf (F := F) c M7) (Q : PUnit → sProp 𝕄) :
    iprop(pt c M0 f0 ∗ pt c M1 f1 ∗ pt c M2 f2 ∗ pt c M3 f3 ∗ pt c M4 f4 ∗ pt c M5 f5 ∗ pt c M6 f6 ∗ pt c M7 f7 ∗
        (iprop(pt c M0 f0 ∗ pt c M1 f1 ∗ pt c M2 f2 ∗ pt c M3 f3 ∗ pt c M4 f4 ∗ pt c M5 f5 ∗ pt c M6 f6 ∗
          ∃ f, pt c M7 f ∗ ⌜M7.view.read (Elt F) f = nmsOut (M0.view.read (Elt F) f0) (M1.view.read (Elt F) f1) (M2.view.read (Elt F) f2)
            (M3.view.read (Elt F) f3) (M4.view.read (Elt F) f4) (M5.view.read (Elt F) f5) (M6.view.read (Elt F) f6)⌝) -∗ Q ⟨⟩))
      ⊢ wp frame (wpE (defs₀ (F := F)) Variants.none c none) Set.univ
          (cc1__nms_body M0 h0 M1 h1 M2 h2 M3 h3 M4 h4 M5 h5 M6 h6 M7 h7) Q := by
  iintro ⟨H0, H1, H2, H3, H4, H5, H6, H7, Hk⟩
  have hinv := nms_inv0 (M0.view.read (Elt F) f0) (ldW c M1 f1) (ldW c M2 f2) (ldW c M3 f3) (ldW c M4 f4) (ldW c M5 f5)
    (k1_pay7 (ldW c M6 f6)) (M7.view.read (Elt F) f7)
  sl_exec_parts
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _
  isplitl [H7]; · iexact H7
  ipureintro
  rw [← ldW_eq c M1 f1, ← ldW_eq c M2 f2, ← ldW_eq c M3 f3, ← ldW_eq c M4 f4, ← ldW_eq c M5 f5, ← ldW_eq c M6 f6]
  funext y
  exact hL2.2.2 y (y 0).isLt

end Cert.Proof.Run

end
-- ==== Proof.KernelRegions.lean ====
/-
  The two kernel calls as regions of @main, at any float instance: proof data at an entry valuation, the body
  obligations, the segment records, and what each leaves in its result's array.
-/
module

public import proofs.«01_k».proof.Proof.NmsBody
public import proofs.«01_k».proof.Proof.Gen.KernelIdeal.Points
public import proofs.«01_k».proof.Proof.Gen.KernelIdeal.Regions
public import Idealize.ShloMosaic.Lib.Pipeline.RegionsLoop

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)

variable {F : FTy → Type} [FloatOps F]

local notation "𝕄" => MT nD τ sig Unit (Elt F) ℕ (UR sig nD τ) ℕ

/-- The ghost state of the launch. -/
abbrev UU : Type := UR sig nD τ
/-- No loop of the two calls takes a variant. -/
abbrev 𝒱₀ : Variants := Variants.none

/-- No core owes another anything: no level is assigned. -/
abbrev L : GSem nD τ sig → Finset Unit := fun _ => ∅
abbrev lv : GSem nD τ sig → Unit → ℕ := fun _ _ => 0

/-- A valuation of the core's buffers. -/
abbrev Val₀ : Type := (c : Dev nD) → (b : Ref sig .tc) → Buf (Elt F) ((c : Thread nD τ).loc b)

variable (V : Val₀ (F := F))

/-- The two input arrays of the scores call, and the seven of the suppression call, at the entry valuation. -/
abbrev inA0 (c : Dev nD) : S80x20480.Idx → F .f32 := V c main_v0
abbrev inA1 (c : Dev nD) : S1x20480.Idx → F .f32 := V c main_v1
abbrev inB0 (c : Dev nD) : S1024x16.Idx → F .f32 := V c main_v167
abbrev inB1 (c : Dev nD) : S8x128.Idx → F .f32 := V c main_v169
abbrev inB2 (c : Dev nD) : S8x128.Idx → F .f32 := V c main_v171
abbrev inB3 (c : Dev nD) : S8x128.Idx → F .f32 := V c main_v173
abbrev inB4 (c : Dev nD) : S8x128.Idx → F .f32 := V c main_v175
abbrev inB5 (c : Dev nD) : S8x128.Idx → F .f32 := V c main_v177
abbrev inB6 (c : Dev nD) : S8x128.Idx → F .f32 := V c main_v180

/-- What the two calls leave in their results' arrays. -/
def resA (c : Dev nD) : S80x20480.Idx → F .f32 := k0_pay1 (inA0 V c) (inA1 V c)
def resB (c : Dev nD) : S100x8.Idx → F .f32 :=
  nmsOut (inB0 V c) (inB1 V c) (inB2 V c) (inB3 V c) (inB4 V c) (inB5 V c) (inB6 V c)

/-- The scoped buffers that each call leaves alone. -/
abbrev ΦA (c : Dev nD) : sProp 𝕄 := Pipeline.scopedRest (Ix := Unit) (Name := ℕ) (U := UU) (Lvl := ℕ) (Val := Elt F) spec0 c
abbrev ΦB (c : Dev nD) : sProp 𝕄 := Pipeline.scopedRest (Ix := Unit) (Name := ℕ) (U := UU) (Lvl := ℕ) (Val := Elt F) spec1 c

/-- The scores call's proof data: inputs as fetched, the result's buffer at the payload of the two inputs. -/
def datA (c : Dev nD) : Dat τ (Elt F) Unit ℕ UU ℕ cfg0 c where
  A w := V c (Pipeline.arrRef spec0 w)
  after w _ := match w with
    | ⟨0, _⟩ => inA0 V c
    | ⟨1, _⟩ => inA1 V c
    | ⟨2, _⟩ => resA V c
  Φ _ := ΦA c
  q _ := fullShare
  owed _ := 0

/-- The suppression call's proof data: inputs as fetched, the result's buffer at the rows of the hundred trips. -/
def datB (c : Dev nD) : Dat τ (Elt F) Unit ℕ UU ℕ cfg1 c where
  A w := V c (Pipeline.arrRef spec1 w)
  after w _ := match w with
    | ⟨0, _⟩ => inB0 V c
    | ⟨1, _⟩ => inB1 V c
    | ⟨2, _⟩ => inB2 V c
    | ⟨3, _⟩ => inB3 V c
    | ⟨4, _⟩ => inB4 V c
    | ⟨5, _⟩ => inB5 V c
    | ⟨6, _⟩ => inB6 V c
    | ⟨7, _⟩ => resB V c
  Φ _ := ΦB c
  q _ := fullShare
  owed _ := 0

/-- Before the only step each window of the scores call holds its array. -/
theorem beforeA_0 (c : Dev nD) (d : (cfg0.win 0).block.Idx → Elt F (cfg0.win 0).elt) : (datA V c).before 0 t0_0 d = inA0 V c := by
  unfold Dat.before
  rw [if_pos (by decide)]
  have hz : (fun a => win0_0.index t0_0 a * main_v0.ty.shape.size a) = fun _ => 0 := funext fun a => by fin_cases a <;> decide
  exact Memref.read_access_unit_zero (Elt F) main_v0 hz (fun a => by rw [congrFun hz a]; simp) (V c main_v0)
theorem beforeA_1 (c : Dev nD) (d : (cfg0.win 1).block.Idx → Elt F (cfg0.win 1).elt) : (datA V c).before 1 t0_0 d = inA1 V c := by
  unfold Dat.before
  rw [if_pos (by decide)]
  have hz : (fun a => win0_1.index t0_0 a * main_v1.ty.shape.size a) = fun _ => 0 := funext fun a => by fin_cases a <;> decide
  exact Memref.read_access_unit_zero (Elt F) main_v1 hz (fun a => by rw [congrFun hz a]; simp) (V c main_v1)
/-- Before the only step each window of the suppression call holds its array. -/
theorem beforeB_0 (c : Dev nD) (d : (cfg1.win 0).block.Idx → Elt F (cfg1.win 0).elt) : (datB V c).before 0 t1_0 d = inB0 V c := by
  unfold Dat.before
  rw [if_pos (by decide)]
  have hz : (fun a => win1_0.index t1_0 a * main_v167.ty.shape.size a) = fun _ => 0 := funext fun a => by fin_cases a <;> decide
  exact Memref.read_access_unit_zero (Elt F) main_v167 hz (fun a => by rw [congrFun hz a]; simp) (V c main_v167)
theorem beforeB_1 (c : Dev nD) (d : (cfg1.win 1).block.Idx → Elt F (cfg1.win 1).elt) : (datB V c).before 1 t1_0 d = inB1 V c := by
  unfold Dat.before
  rw [if_pos (by decide)]
  have hz : (fun a => win1_1.index t1_0 a * main_v169.ty.shape.size a) = fun _ => 0 := funext fun a => by fin_cases a <;> decide
  exact Memref.read_access_unit_zero (Elt F) main_v169 hz (fun a => by rw [congrFun hz a]; simp) (V c main_v169)
theorem beforeB_2 (c : Dev nD) (d : (cfg1.win 2).block.Idx → Elt F (cfg1.win 2).elt) : (datB V c).before 2 t1_0 d = inB2 V c := by
  unfold Dat.before
  rw [if_pos (by decide)]
  have hz : (fun a => win1_2.index t1_0 a * main_v171.ty.shape.size a) = fun _ => 0 := funext fun a => by fin_cases a <;> decide
  exact Memref.read_access_unit_zero (Elt F) main_v171 hz (fun a => by rw [congrFun hz a]; simp) (V c main_v171)
theorem beforeB_3 (c : Dev nD) (d : (cfg1.win 3).block.Idx → Elt F (cfg1.win 3).elt) : (datB V c).before 3 t1_0 d = inB3 V c := by
  unfold Dat.before
  rw [if_pos (by decide)]
  have hz : (fun a => win1_3.index t1_0 a * main_v173.ty.shape.size a) = fun _ => 0 := funext fun a => by fin_cases a <;> decide
  exact Memref.read_access_unit_zero (Elt F) main_v173 hz (fun a => by rw [congrFun hz a]; simp) (V c main_v173)
theorem beforeB_4 (c : Dev nD) (d : (cfg1.win 4).block.Idx → Elt F (cfg1.win 4).elt) : (datB V c).before 4 t1_0 d = inB4 V c := by
  unfold Dat.before
  rw [if_pos (by decide)]
  have hz : (fun a => win1_4.index t1_0 a * main_v175.ty.shape.size a) = fun _ => 0 := funext fun a => by fin_cases a <;> decide
  exact Memref.read_access_unit_zero (Elt F) main_v175 hz (fun a => by rw [congrFun hz a]; simp) (V c main_v175)
theorem beforeB_5 (c : Dev nD) (d : (cfg1.win 5).block.Idx → Elt F (cfg1.win 5).elt) : (datB V c).before 5 t1_0 d = inB5 V c := by
  unfold Dat.before
  rw [if_pos (by decide)]
  have hz : (fun a => win1_5.index t1_0 a * main_v177.ty.shape.size a) = fun _ => 0 := funext fun a => by fin_cases a <;> decide
  exact Memref.read_access_unit_zero (Elt F) main_v177 hz (fun a => by rw [congrFun hz a]; simp) (V c main_v177)
theorem beforeB_6 (c : Dev nD) (d : (cfg1.win 6).block.Idx → Elt F (cfg1.win 6).elt) : (datB V c).before 6 t1_0 d = inB6 V c := by
  unfold Dat.before
  rw [if_pos (by decide)]
  have hz : (fun a => win1_6.index t1_0 a * main_v180.ty.shape.size a) = fun _ => 0 := funext fun a => by fin_cases a <;> decide
  exact Memref.read_access_unit_zero (Elt F) main_v180 hz (fun a => by rw [congrFun hz a]; simp) (V c main_v180)

/-- The scores body run at the staged blocks. -/
theorem body_obligationA (c : Dev nD) : BodyObligation (datA V c) (defs₀ (F := F)) 𝒱₀ () Set.univ := fun t => by
  obtain rfl := fin_N0 t
  rw [bigSep_W0, bigSep_W0]
  simp only [owns_whole_eq]
  rw [show (datA V c).Φ t0_0.castSucc = ΦA c from rfl, show (datA V c).Φ t0_0.succ = ΦA c from rfl,
    show (datA V c).owesAt () t0_0.succ = (datA V c).owesAt () t0_0.castSucc from rfl]
  iintro ⟨HΦ, Howes, ⟨%d0, %f0, %hf0, H0⟩, ⟨%d1, %f1, %hf1, H1⟩, ⟨%d2, %f2, -, H2⟩⟩
  rw [beforeA_0] at hf0
  rw [beforeA_1] at hf1
  iapply ((scoreRun c (stage0_0 0) (hstage0_0 0) (stage0_1 0) (hstage0_1 0) (stage0_2 0) (hstage0_2 0) f0 f1).2 f2 Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexists _; isplitr; swap; (· iexact H0); ipureintro; exact hf0
  isplitl [H1]; · iexists _; isplitr; swap; (· iexact H1); ipureintro; exact hf1
  iexists _; isplitr; swap; (· iexact H2); ipureintro
  have h := scoreRun_read c (stage0_0 0) (hstage0_0 0) (stage0_1 0) (hstage0_1 0) (stage0_2 0) (hstage0_2 0) f0 f1
  rw [hf0, hf1] at h
  subst hf0; subst hf1
  exact h

/-- The suppression body run at the staged blocks. -/
theorem body_obligationB (c : Dev nD) : BodyObligation (datB V c) (defs₀ (F := F)) 𝒱₀ () Set.univ := fun t => by
  obtain rfl := fin_N1 t
  rw [bigSep_W1, bigSep_W1]
  simp only [owns_whole_eq]
  rw [show (datB V c).Φ t1_0.castSucc = ΦB c from rfl, show (datB V c).Φ t1_0.succ = ΦB c from rfl,
    show (datB V c).owesAt () t1_0.succ = (datB V c).owesAt () t1_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, -, H7⟩⟩
  rw [beforeB_0] at hf0
  rw [beforeB_1] at hf1
  rw [beforeB_2] at hf2
  rw [beforeB_3] at hf3
  rw [beforeB_4] at hf4
  rw [beforeB_5] at hf5
  rw [beforeB_6] at hf6
  iapply (nms_run c (stage1_0 0) (hstage1_0 0) (stage1_1 0) (hstage1_1 0) (stage1_2 0) (hstage1_2 0) (stage1_3 0) (hstage1_3 0) (stage1_4 0) (hstage1_4 0) (stage1_5 0) (hstage1_5 0) (stage1_6 0) (hstage1_6 0) (stage1_7 0) (hstage1_7 0) f0 f1 f2 f3 f4 f5 f6 f7 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, %f, H7, %hf⟩
  isplitl [HΦ]; · iexact HΦ
  isplitl [Howes]; · iexact Howes
  isplitl [H0]; · iexists _; isplitr; swap; (· iexact H0); ipureintro; exact hf0
  isplitl [H1]; · iexists _; isplitr; swap; (· iexact H1); ipureintro; exact hf1
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  isplitl [H5]; · iexists _; isplitr; swap; (· iexact H5); ipureintro; exact hf5
  isplitl [H6]; · iexists _; isplitr; swap; (· iexact H6); ipureintro; exact hf6
  iexists _; isplitr; swap; (· iexact H7); ipureintro
  rw [hf0, hf1, hf2, hf3, hf4, hf5, hf6] at hf
  exact hf

/-- The pipelines' proof data, the scores call's at valuation `VA`, the suppression call's at `VB`. -/
def pdats (VA VB : Val₀ (F := F)) : (p : Fin 2) → (c : Dev nD) → Dat τ (Elt F) Unit ℕ UU ℕ (cfgs p) c
  | ⟨0, _⟩ => fun c => datA VA c
  | ⟨1, _⟩ => fun c => datB VB c

/-- The one write-back of the result's window writes the whole array. -/
theorem flushedA (c : Dev nD) (t : Fin cfg0.N) (hf : (cfg0.win 2).flush t = true) :
    (datA V c).flushed 2 t = ((cfg0.win 2).blk t).view.read (Elt F) (resA V c : Buf (Elt F) ((c : Thread nD τ).loc main_v2)) := by
  obtain rfl := fin_N0 t
  have hz : (fun a => win0_2.index t0_0 a * main_v2.ty.shape.size a) = fun _ => 0 := funext fun a => by fin_cases a <;> decide
  exact (Memref.read_access_unit_zero (Elt F) main_v2 hz (fun a => by rw [congrFun hz a]; simp) (resA V c)).symm

/-- So the result's array ends at what the body leaves. -/
theorem finalA (c : Dev nD) : (datA V c).arrAt 2 cfg0.N = (resA V c : Buf (Elt F) ((c : Thread nD τ).loc main_v2)) :=
  (datA V c).arrAt_eq_of_cover 2 (resA V c) (flushedA V c) fun i =>
    ⟨t0_0, by decide, by
      show i ∈ ((View.whole main_v2).slice (win0_2.rect t0_0)).set
      rw [View.set_slice_whole, Rect.mem_set_unit]
      intro a
      have h0 : (i 0 : Nat) < 80 := (i 0).isLt
      have h1 : (i 1 : Nat) < 20480 := (i 1).isLt
      match a with
      | ⟨0, _⟩ => show win0_2.index t0_0 0 * win0_2.size 0 ≤ (i 0 : Nat) ∧ (i 0 : Nat) < win0_2.index t0_0 0 * win0_2.size 0 + win0_2.xsize (grid0.coords t0_0) 0
                  rw [show win0_2.index t0_0 0 * win0_2.size 0 = 0 from by decide +kernel, show win0_2.xsize (grid0.coords t0_0) 0 = 80 from by decide +kernel]; omega
      | ⟨1, _⟩ => show win0_2.index t0_0 1 * win0_2.size 1 ≤ (i 1 : Nat) ∧ (i 1 : Nat) < win0_2.index t0_0 1 * win0_2.size 1 + win0_2.xsize (grid0.coords t0_0) 1
                  rw [show win0_2.index t0_0 1 * win0_2.size 1 = 0 from by decide +kernel, show win0_2.xsize (grid0.coords t0_0) 1 = 20480 from by decide +kernel]; omega⟩

/-- The one write-back of the result's window writes the whole array. -/
theorem flushedB (c : Dev nD) (t : Fin cfg1.N) (hf : (cfg1.win 7).flush t = true) :
    (datB V c).flushed 7 t = ((cfg1.win 7).blk t).view.read (Elt F) (resB V c : Buf (Elt F) ((c : Thread nD τ).loc main_v181)) := by
  obtain rfl := fin_N1 t
  have hz : (fun a => win1_7.index t1_0 a * main_v181.ty.shape.size a) = fun _ => 0 := funext fun a => by fin_cases a <;> decide
  exact (Memref.read_access_unit_zero (Elt F) main_v181 hz (fun a => by rw [congrFun hz a]; simp) (resB V c)).symm

/-- So the result's array ends at what the body leaves. -/
theorem finalB (c : Dev nD) : (datB V c).arrAt 7 cfg1.N = (resB V c : Buf (Elt F) ((c : Thread nD τ).loc main_v181)) :=
  (datB V c).arrAt_eq_of_cover 7 (resB V c) (flushedB V c) fun i =>
    ⟨t1_0, by decide, by
      show i ∈ ((View.whole main_v181).slice (win1_7.rect t1_0)).set
      rw [View.set_slice_whole, Rect.mem_set_unit]
      intro a
      have h0 : (i 0 : Nat) < 100 := (i 0).isLt
      have h1 : (i 1 : Nat) < 8 := (i 1).isLt
      match a with
      | ⟨0, _⟩ => show win1_7.index t1_0 0 * win1_7.size 0 ≤ (i 0 : Nat) ∧ (i 0 : Nat) < win1_7.index t1_0 0 * win1_7.size 0 + win1_7.xsize (grid1.coords t1_0) 0
                  rw [show win1_7.index t1_0 0 * win1_7.size 0 = 0 from by decide +kernel, show win1_7.xsize (grid1.coords t1_0) 0 = 100 from by decide +kernel]; omega
      | ⟨1, _⟩ => show win1_7.index t1_0 1 * win1_7.size 1 ≤ (i 1 : Nat) ∧ (i 1 : Nat) < win1_7.index t1_0 1 * win1_7.size 1 + win1_7.xsize (grid1.coords t1_0) 1
                  rw [show win1_7.index t1_0 1 * win1_7.size 1 = 0 from by decide +kernel, show win1_7.xsize (grid1.coords t1_0) 1 = 8 from by decide +kernel]; omega⟩

set_option maxHeartbeats 1600000 in
set_option backward.isDefEq.respectTransparency.types false in
/-- Region 0 over the thread state "every unscoped buffer at `VA c`, the core's dues", left at `Vp`. -/
def regA (VA VB : Val₀ (F := F)) (Vp : Val₀ (F := F)) (hout : ∀ c, Vp c main_v2 = resA VA c)
    (hne : ∀ c (b : Ref sig .tc), b ≠ main_v2 → Vp c b = VA c b) :
    RegionSeg (pcfgs (F := F)) adm (pdats VA VB) () defs₀ 𝒱₀ L lv 0 where
  win := launch0.win.to₀
  block_pos := launch0.block_pos
  stage_whole := launch0.stage_whole
  K := PEmpty
  osem k := k.elim
  ho := Pipeline.OwnSemFacts.none _
  hbody c := (body_obligationA VA c).loose
  hwaits := Pipeline.hwaits_of_owed_zero _ _ _ _ L lv 0 fun _ _ => rfl
  pre c := iprop(unscopedBufs c (VA c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UU) (Lvl := ℕ) spec0 c (VA c)
  hentry c := by
    rw [Pipeline.ownSems0_none]
    have hsplit := Pipeline.arrays_of_unscopedBufs (p := 0) (pcfgs (F := F)) adm (pdats VA VB) launch0.win launch0.arr_whole c
      ((pdats VA VB 0 c).share_full fun _ => rfl) (VA c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats VA VB 0 c).Φ 0 = ΦA c from rfl]
    iintro ⟨-, -, Hr⟩; iexact Hr
  hout c := by
    rw [Pipeline.ownSems0_none, show (pdats VA VB 0 c).Φ (Fin.last _) = ΦA c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) launch0.win launch0.arr_whole c
      (pdats VA VB) ((pdats VA VB 0 c).share_full fun _ => rfl) (VA c) (Vp c) ((pdats VA VB 0 c).arrAt · cfg0.N)
      (fun w => by
        match w with
        | ⟨0, _⟩ => exact ((datA VA c).arrAt_in 0 rfl _).trans (hne c main_v0 (by decide)).symm
        | ⟨1, _⟩ => exact ((datA VA c).arrAt_in 1 rfl _).trans (hne c main_v1 (by decide)).symm
        | ⟨2, _⟩ => exact (finalA VA c).trans (hout c).symm)
      (fun b hb => hne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option maxHeartbeats 1600000 in
set_option backward.isDefEq.respectTransparency.types false in
/-- Region 1 over the thread state "every unscoped buffer at `VB c`, the core's dues", left at `Vp`. -/
def regB (VA VB : Val₀ (F := F)) (Vp : Val₀ (F := F)) (hout : ∀ c, Vp c main_v181 = resB VB c)
    (hne : ∀ c (b : Ref sig .tc), b ≠ main_v181 → Vp c b = VB c b) :
    RegionSeg (pcfgs (F := F)) adm (pdats VA VB) () defs₀ 𝒱₀ L lv 1 where
  win := launch1.win.to₀
  block_pos := launch1.block_pos
  stage_whole := launch1.stage_whole
  K := PEmpty
  osem k := k.elim
  ho := Pipeline.OwnSemFacts.none _
  hbody c := (body_obligationB VB c).loose
  hwaits := Pipeline.hwaits_of_owed_zero _ _ _ _ L lv 1 fun _ _ => rfl
  pre c := iprop(unscopedBufs c (VB c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UU) (Lvl := ℕ) spec1 c (VB c)
  hentry c := by
    rw [Pipeline.ownSems0_none]
    have hsplit := Pipeline.arrays_of_unscopedBufs (p := 1) (pcfgs (F := F)) adm (pdats VA VB) launch1.win launch1.arr_whole c
      ((pdats VA VB 1 c).share_full fun _ => rfl) (VB c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats VA VB 1 c).Φ 0 = ΦB c from rfl]
    iintro ⟨-, -, Hr⟩; iexact Hr
  hout c := by
    rw [Pipeline.ownSems0_none, show (pdats VA VB 1 c).Φ (Fin.last _) = ΦB c from rfl]
    iintro Hr
    isplitr; · iempintro
    isplitr; · iempintro
    iexact Hr
  hexit c := by
    have hjoin := Pipeline.unscopedBufs_of_arrays (p := 1) (pcfgs (F := F)) adm (Ix := Unit) (Name := ℕ) (U := UU) (Lvl := ℕ) launch1.win launch1.arr_whole c
      (pdats VA VB) ((pdats VA VB 1 c).share_full fun _ => rfl) (VB c) (Vp c) ((pdats VA VB 1 c).arrAt · cfg1.N)
      (fun w => by
        match w with
        | ⟨0, _⟩ => exact ((datB VB c).arrAt_in 0 rfl _).trans (hne c main_v167 (by decide)).symm
        | ⟨1, _⟩ => exact ((datB VB c).arrAt_in 1 rfl _).trans (hne c main_v169 (by decide)).symm
        | ⟨2, _⟩ => exact ((datB VB c).arrAt_in 2 rfl _).trans (hne c main_v171 (by decide)).symm
        | ⟨3, _⟩ => exact ((datB VB c).arrAt_in 3 rfl _).trans (hne c main_v173 (by decide)).symm
        | ⟨4, _⟩ => exact ((datB VB c).arrAt_in 4 rfl _).trans (hne c main_v175 (by decide)).symm
        | ⟨5, _⟩ => exact ((datB VB c).arrAt_in 5 rfl _).trans (hne c main_v177 (by decide)).symm
        | ⟨6, _⟩ => exact ((datB VB c).arrAt_in 6 rfl _).trans (hne c main_v180 (by decide)).symm
        | ⟨7, _⟩ => exact (finalB VB c).trans (hout c).symm)
      (fun b hb => hne c b fun h => hb (h ▸ Finset.mem_image.mpr ⟨7, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Proof.Run

end
-- ==== Proof.KernelRun.lean ====
/-
  @main of the kernel, run at any float instance: every unscoped buffer ends at the last valuation `V55` of the
  program's stages, with the two calls' results at what their bodies leave, and every semaphore counter at zero.
-/
module

public import proofs.«01_k».proof.Proof.KernelRegions
public import Idealize.ShloMosaic.Adequacy
public import Idealize.ShloMosaic.Init

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Contents for one buffer, anything elsewhere. -/
def pickRef (r₀ : Ref sig .tc) (f : (c : Dev nD) → Buf (Elt F) ((c : Thread nD τ).loc r₀)) (r : Ref sig .tc) (c : Dev nD) :
    Buf (Elt F) ((c : Thread nD τ).loc r) :=
  if h : r₀ = r then h ▸ f c else fun _ => Classical.arbitrary _

/-- At the chosen buffer the contents are the given ones. -/
theorem pickRef_self (r₀ : Ref sig .tc) (f : (c : Dev nD) → Buf (Elt F) ((c : Thread nD τ).loc r₀)) (c : Dev nD) :
    pickRef r₀ f r₀ c = f c := by
  unfold pickRef; rw [dif_pos rfl]

/-- The valuation the scores call is entered from, and what it leaves in its result. -/
abbrev VA : Val₀ (F := F) := fun c b => V1 m c b
abbrev outA : (r : Ref sig .tc) → (c : Dev nD) → Buf (Elt F) ((c : Thread nD τ).loc r) := pickRef main_v2 (fun c => resA (VA m) c)

/-- The valuation the suppression call is entered from, and what it leaves in its result. -/
abbrev VB : Val₀ (F := F) := fun c b => V53 m (fun _ => outA m) c b
abbrev outB : (r : Ref sig .tc) → (c : Dev nD) → Buf (Elt F) ((c : Thread nD τ).loc r) := pickRef main_v181 (fun c => resB (VB m) c)

/-- What the two calls leave, by the stage they leave it at. -/
def outsF : Outs (F := F)
  | 2 => outA m
  | _ => outB m

/-- Up to the second call only the first call's result matters. -/
theorem V53_outsF (c : Dev nD) : V53 m (outsF m) c = V53 m (fun _ => outA m) c := rfl

/-- The region of the scores call. -/
abbrev RA : RegionSeg (pcfgs (F := F)) adm (pdats (VA m) (VB m)) () defs₀ 𝒱₀ L lv 0 :=
  regA (VA m) (VB m) (fun c b => V2 m (outsF m) c b)
    (fun c => (Function.update_self ..).trans (pickRef_self main_v2 _ c))
    (fun c b hb => Function.update_of_ne (fun h => hb (Proc.devRef_injective _ h)) ..)

/-- The region of the suppression call. -/
abbrev RB : RegionSeg (pcfgs (F := F)) adm (pdats (VA m) (VB m)) () defs₀ 𝒱₀ L lv 1 :=
  regB (VA m) (VB m) (fun c b => V54 m (outsF m) c b)
    (fun c => (Function.update_self ..).trans (pickRef_self main_v181 _ c))
    (fun c b hb => Function.update_of_ne (fun h => hb (Proc.devRef_injective _ h)) ..)

/-- The core's dues, the rest of the thread state between items. -/
abbrev EE (c : Dev nD) : sProp 𝕄 := iprop(∃ W, owes (c : Thread nD τ) (0 : CellTallies nD τ sig Unit) W)

/-- What the launch hands a core makes its first thread state. -/
theorem launch_core (c : Dev nD) :
    (iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ BI.emp) : sProp 𝕄)
    ⊢ iprop(StableHlo.held (c : Thread nD τ) (Pipeline.ucRefs τ sig) (V0 m c) ∗ EE c) := by
  rw [← Pipeline.unscopedBufs_held (Ix := Unit) (Name := ℕ) (U := UU) (Lvl := ℕ) c (V0 m c)]
  iintro ⟨Hb, -, HO, -⟩
  isplitl [Hb]; · iexact Hb
  iexists _; iexact HO

set_option maxHeartbeats 4000000 in
set_option backward.isDefEq.respectTransparency.types false in
/-- The run: every unscoped buffer at the last valuation, every semaphore counter at zero. -/
theorem run_final : θ_run defs (onTc (τ := τ) (main (F := F))) ⟨m, fun _ => 0, ρ⟩ (fun r =>
    (∀ c : Dev nD, ∀ b ∈ Pipeline.ucRefs τ sig, r.2.mem ((c.tc : Thread nD τ).1, b) = V55 m (outsF m) c b)
      ∧ r.2.sem = fun _ => 0) := by
  refine Pipeline.θ_run_regions_kit_dev_sems (pcfgs (F := F)) adm (pdats (VA m) (VB m)) () cellOf_inj emb₁ defs₀ 𝒱₀ L lv m ρ main
    (segs m (outsF m) 𝒱₀ L lv (fun _ => EE) () (pdats (VA m) (VB m)) (RA m) (RB m))
    (fun c Q => by
      rewrite [main_chain c, Seg.run_eq_chain,
        show (segs m (outsF m) 𝒱₀ L lv (fun _ => EE) () (pdats (VA m) (VB m)) (RA m) (RB m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          StableHlo.seq hostOps1_13,
          StableHlo.seq hostOps1_14,
          StableHlo.seq hostOps1_15,
          StableHlo.seq hostOps1_16,
          StableHlo.seq hostOps1_17,
          StableHlo.seq hostOps1_18,
          StableHlo.seq hostOps1_19,
          StableHlo.seq hostOps1_20,
          StableHlo.seq hostOps1_21,
          StableHlo.seq hostOps1_22,
          StableHlo.seq hostOps1_23,
          StableHlo.seq hostOps1_24,
          StableHlo.seq hostOps1_25,
          StableHlo.seq hostOps1_26,
          StableHlo.seq hostOps1_27,
          StableHlo.seq hostOps1_28,
          StableHlo.seq hostOps1_29,
          StableHlo.seq hostOps1_30,
          StableHlo.seq hostOps1_31,
          StableHlo.seq hostOps1_32,
          StableHlo.seq hostOps1_33,
          StableHlo.seq hostOps1_34,
          StableHlo.seq hostOps1_35,
          StableHlo.seq hostOps1_36,
          StableHlo.seq hostOps1_37,
          StableHlo.seq hostOps1_38,
          StableHlo.seq hostOps1_39,
          StableHlo.seq hostOps1_40,
          StableHlo.seq hostOps1_41,
          StableHlo.seq hostOps1_42,
          StableHlo.seq hostOps1_43,
          StableHlo.seq hostOps1_44,
          StableHlo.seq hostOps1_45,
          StableHlo.seq hostOps1_46,
          StableHlo.seq hostOps1_47,
          StableHlo.seq hostOps1_48,
          StableHlo.seq hostOps1_49,
          StableHlo.seq hostOps1_50,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun _ _ => rfl)
    (fun _ => BI.emp) (initOf (Pipeline.cells cfgs cellOf_inj) (Pipeline.launchToks cfgs cellOf_inj)) ?_
    (T₀ := fun c => iprop(StableHlo.held (c : Thread nD τ) (Pipeline.ucRefs τ sig) (V0 m c) ∗ EE c))
    (Tₙ := fun c => StableHlo.held (c : Thread nD τ) (Pipeline.ucRefs τ sig) (V55 m (outsF m) c))
    (hch := fun c => ⟨.rfl, ?_, ?_, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, ?_, ?_, .rfl⟩)
    (hinit := ?_) (QY := fun c s => ∀ b ∈ Pipeline.ucRefs τ sig, s.mem ((c.tc : Thread nD τ).1, b) = V55 m (outsF m) c b)
    (hfin := fun c s' => ?_) (hQ := fun _ h hz => ⟨h, funext fun g => hz g (.inr (regions_no_unscoped g.2))⟩)
  · rw [bigSep_emp_const, ownU_emb₁]
    iintro H
    imodintro
    isplitl [H]; · iexact H
    iempintro
  · exact sep_mono (Entails.of_eq (Pipeline.unscopedBufs_held (Ix := Unit) (Name := ℕ) (U := UU) (Lvl := ℕ) c (V1 m c)).symm) .rfl
  · exact sep_mono (Entails.of_eq (Pipeline.unscopedBufs_held (Ix := Unit) (Name := ℕ) (U := UU) (Lvl := ℕ) c (V2 m (outsF m) c))) .rfl
  · exact sep_mono (Entails.of_eq (Pipeline.unscopedBufs_held (Ix := Unit) (Name := ℕ) (U := UU) (Lvl := ℕ) c (V53 m (fun _ => outA m) c)).symm) .rfl
  · exact sep_mono (Entails.of_eq (Pipeline.unscopedBufs_held (Ix := Unit) (Name := ℕ) (U := UU) (Lvl := ℕ) c (V54 m (outsF m) c))) .rfl
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (bigSep Finset.univ fun c : Dev nD => iprop(StableHlo.held (c : Thread nD τ) (Pipeline.ucRefs τ sig) (V0 m c) ∗ EE c) : sProp 𝕄) :=
      bigSep_mono fun c _ => launch_core m ρ c
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (V55 m (outsF m) c) s') $$ [Hh HSI]
    · isplitl [Hh] <;> iassumption
    icases Hr with ⟨%h, HSI⟩
    imodintro
    isplitr
    · ipureintro; exact h
    · iexact HSI

end Cert.Proof.Run

end
-- ==== Proof.SameProgram.lean ====
/-
  The kernel as printed for reading at bits and the kernel as printed for reading at the ideal instance are one
  program: the same @main and the same kernel bodies, by unfolding both.
-/
module

public import proofs.«01_k».proof.Proof.Gen.Kernel
public import proofs.«01_k».proof.Proof.Gen.KernelIdeal

@[expose] public section

set_option maxRecDepth 65536

noncomputable section

namespace Cert.Proof

open Idealize.ShloMosaic

variable {F : FTy → Type} [FloatOps F]

set_option cleanup.letToHave false in
set_option maxHeartbeats 0 in
/-- The two printed @mains are one program. -/
theorem same_main : Cert.Kernel.main (F := F) = Cert.KernelIdeal.main (F := F) := rfl

set_option cleanup.letToHave false in
set_option maxHeartbeats 0 in
/-- The two body tables are one. -/
theorem same_bodies : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rfl
  | 1, (t, s) => rfl

end Cert.Proof

end
-- ==== Proof.Frames.lean ====
/-
  The frames of the two kernels: each runs, its arguments end unchanged, and every semaphore counter ends at zero.
-/
module

public import proofs.«01_k».proof.Proof.KernelRun
public import proofs.«01_k».proof.Proof.SameProgram
public import proofs.«01_k».proof.Proof.Gen.Kernel
public import proofs.«01_k».proof.Defs
@[expose] public section
set_option maxRecDepth 65536
noncomputable section
namespace Cert.Proof

open Idealize.ShloMosaic Idealize.SL.Sem
variable {F : FTy → Type} [FloatOps F]
set_option maxHeartbeats 0 in
/-- The two kernels' whole tables of bodies are the same. -/
theorem same_defs : Cert.Kernel.defs (F := F) = Cert.KernelIdeal.defs (F := F) := by
  unfold Cert.Kernel.defs Cert.KernelIdeal.defs
  rw [same_bodies]
  rfl

open Cert.KernelIdeal Cert.KernelIdeal.Gen Cert.Proof.Run in
/-- The idealized kernel's frame, at any float values. -/
theorem frameF (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (run_final m ρ).mono fun r h => ⟨fun c =>
    ⟨(h.1 c (Proc.devRef .tc main_arg0) (Finset.mem_filter.mpr ⟨StableHlo.devRef_mem_tcRefs main_arg0, by decide⟩)).trans (V55_main_arg0 m _ c),
     (h.1 c (Proc.devRef .tc main_arg1) (Finset.mem_filter.mpr ⟨StableHlo.devRef_mem_tcRefs main_arg1, by decide⟩)).trans (V55_main_arg1 m _ c),
     (h.1 c (Proc.devRef .tc main_arg2) (Finset.mem_filter.mpr ⟨StableHlo.devRef_mem_tcRefs main_arg2, by decide⟩)).trans (V55_main_arg2 m _ c),
     (h.1 c (Proc.devRef .tc main_arg3) (Finset.mem_filter.mpr ⟨StableHlo.devRef_mem_tcRefs main_arg3, by decide⟩)).trans (V55_main_arg3 m _ c)⟩, h.2⟩

set_option maxHeartbeats 0 in
/-- The kernel's frame. -/
theorem frame_Kernel : Cert.quiescent_Kernel := fun m g _ => by
  rw [same_defs, same_main]
  exact frameF m g

/-- The idealized kernel's frame. -/
theorem frame_KernelIdeal : Cert.quiescent_KernelIdeal := fun m g _ => frameF m g

end Cert.Proof

end
-- ==== Proof.RefRun.lean ====
/-
  The reference's run: what its loop and its last stretch leave alone, and so its frame.
-/
module

public import proofs.«01_k».proof.Proof.Gen.ReferenceIdeal.Run
public import proofs.«01_k».proof.Defs
public import Idealize.ShloMosaic.Lib.Quiescent

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.Tactic Idealize.ShloMosaic.StableHlo Idealize.SL.Sem

variable {F : FTy → Type} [FloatOps F] (m : (ℓ : Loc nD τ sig) → Buf (Elt F) ℓ) (c : Dev nD)

/-- What the stretch after the loop writes. -/
abbrev postW : List (Ref sig .tc) := [main_cst_51, main_call7_v0, main_call7_v1, main_v213, main_values_52, main_indices_53, main_c_54, main_v214,
  main_v215, main_c_55, main_v216, main_v217, main_v218, main_v219, main_v220, main_c_56, main_v221, main_v222, main_c_57, main_v223, main_v224,
  main_v225, main_v226, main_v227, main_v228, main_v229]

/-- A buffer the loop does not write keeps its contents through it. -/
theorem atK_keep (r : Ref sig .tc) (h : r ∉ while0Ops0_W) (h' : r ∉ condOps_W) :
    ∀ k, atK m k c (Proc.devRef .tc r) = entryContents preI m c (Proc.devRef .tc r)
  | 0 => rfl
  | k + 1 => by
    rw [show atK m (k + 1) c = after while0Ops0 (after condOps (atK m k c)) from rfl, after_of_writes_sub while0Ops0 _ while0Ops0_writes h,
      after_of_writes_sub condOps _ condOps_writes h', atK_keep r h h' k]

/-- What the last stretches write. -/
theorem post_writes : (hostOps0_15 ++ (hostOps0_16 ++ hostOps0_17) : List (HloOp τ sig (Elt F))).Forall fun op =>
    op.writes ⊆ (postW.map (Proc.devRef (τ := τ) .tc)).toFinset :=
  forall_writes_sub_of_map rfl

/-- A buffer that neither the loop nor the last stretch writes ends as it is at the loop's entry. -/
theorem final_keep (r : Ref sig .tc) (h : r ∉ while0Ops0_W) (h' : r ∉ condOps_W) (hp : r ∉ postW) :
    finalContents condOps preI bodyI postI 1000 m c (Proc.devRef .tc r) = entryContents preI m c (Proc.devRef .tc r) := by
  show after hostOps0_17 (after hostOps0_16 (after hostOps0_15 (after condOps (atK m 1000 c)))) _ = _
  rw [← after_append, ← after_append, after_of_writes_sub _ _ post_writes hp, after_of_writes_sub condOps _ condOps_writes h',
    atK_keep m c r h h']

/-- The arguments reach the loop's entry unchanged. -/
theorem entry_arg (r : Ref sig .tc) (h : r = main_arg0 ∨ r = main_arg1 ∨ r = main_arg2 ∨ r = main_arg3) :
    entryContents preI m c (Proc.devRef .tc r) = m ((c.tc : Thread nD τ).loc r) := by
  show after hostOps0_14 (after hostOps0_13 (after hostOps0_12 (after hostOps0_11 (after hostOps0_10 (after hostOps0_9 (after hostOps0_8
    (after hostOps0_7 (after hostOps0_6 (after hostOps0_5 (after hostOps0_4 (after hostOps0_3 (after hostOps0_2 (after hostOps0_1
    (after hostOps0 (launchContents m c))))))))))))))) _ = launchContents m c _
  rcases h with rfl | rfl | rfl | rfl <;>
    rw [after_of_writes_sub _ _ hostOps0_14_writes (by decide +kernel), after_of_writes_sub _ _ hostOps0_13_writes (by decide +kernel),
      after_of_writes_sub _ _ hostOps0_12_writes (by decide +kernel), after_of_writes_sub _ _ hostOps0_11_writes (by decide +kernel),
      after_of_writes_sub _ _ hostOps0_10_writes (by decide +kernel), after_of_writes_sub _ _ hostOps0_9_writes (by decide +kernel),
      after_of_writes_sub _ _ hostOps0_8_writes (by decide +kernel), after_of_writes_sub _ _ hostOps0_7_writes (by decide +kernel),
      after_of_writes_sub _ _ hostOps0_6_writes (by decide +kernel), after_of_writes_sub _ _ hostOps0_5_writes (by decide +kernel),
      after_of_writes_sub _ _ hostOps0_4_writes (by decide +kernel), after_of_writes_sub _ _ hostOps0_3_writes (by decide +kernel),
      after_of_writes_sub _ _ hostOps0_2_writes (by decide +kernel), after_of_writes_sub _ _ hostOps0_1_writes (by decide +kernel),
      after_of_writes_sub _ _ hostOps0_writes (by decide +kernel)]

/-- The arguments end unchanged. -/
theorem final_arg (r : Ref sig .tc) (h : r = main_arg0 ∨ r = main_arg1 ∨ r = main_arg2 ∨ r = main_arg3) :
    finalContents condOps preI bodyI postI 1000 m c (Proc.devRef .tc r) = m ((c.tc : Thread nD τ).loc r) := by
  rw [final_keep m c r ?_ ?_ ?_, entry_arg m c r h]
  all_goals rcases h with rfl | rfl | rfl | rfl <;> decide +kernel

/-- The reference's frame: it runs, its arguments end unchanged, and it has no semaphore to leave nonzero. -/
theorem frame_ReferenceIdeal : Cert.quiescent_ReferenceIdeal := fun m g _ =>
  (run_fold m g).mono fun r h => ⟨fun c =>
    ⟨(h c main_arg0 (by decide)).trans (final_arg m c _ (by simp)), (h c main_arg1 (by decide)).trans (final_arg m c _ (by simp)),
     (h c main_arg2 (by decide)).trans (final_arg m c _ (by simp)), (h c main_arg3 (by decide)).trans (final_arg m c _ (by simp))⟩,
    sem_eq_zero_of_no_sems (sig := sig) (by decide) _⟩

end Cert.Proof.Ref

end
-- ==== Proof.NmsMath.lean ====
/-
  Greedy suppression, as plain mathematics on positions: sweeping the candidates in order and clearing what a kept one
  suppresses (the reference) keeps the same candidates as taking the first candidate still active again and again (the
  kernel), and the kernel's order of taking is "kept ones first, each group by position".
-/
module

public import Idealize.ShloMosaic.Lib.Pointwise

@[expose] public section

namespace Cert.Proof.NmsMath

/-- The recursion that says which of the first `n` positions greedy suppression keeps. -/
def IsKeep (n : ℕ) (valid : ℕ → Prop) (S : ℕ → ℕ → Prop) (Keep : ℕ → Prop) : Prop :=
  ∀ j < n, Keep j ↔ valid j ∧ ∀ i < j, Keep i → ¬ S i j

/-- Sweeping the positions in order, clearing at each kept position what it suppresses behind it, ends at a set that
    satisfies the recursion. -/
theorem isKeep_of_sweep (n : ℕ) (valid : ℕ → Prop) (S : ℕ → ℕ → Prop) (K : ℕ → ℕ → Prop)
    (h0 : ∀ j < n, K 0 j ↔ valid j)
    (hs : ∀ t < n, ∀ j < n, K (t + 1) j ↔ K t j ∧ ¬ (S t j ∧ t < j ∧ K t t)) :
    IsKeep n valid S (K n) := by
  have later : ∀ j < n, ∀ d, j + d ≤ n → (K (j + d) j ↔ K j j) := by
    intro j hj d
    induction d with
    | zero => intro _; rfl
    | succ d ih =>
      intro hd
      rw [show j + (d + 1) = (j + d) + 1 from rfl, hs (j + d) (by omega) j hj, ih (by omega)]
      constructor
      · exact fun h => h.1
      · exact fun h => ⟨h, fun hh => by omega⟩
  have fin : ∀ j < n, (K n j ↔ K j j) := by
    intro j hj
    have := later j hj (n - j) (by omega)
    rwa [show j + (n - j) = n by omega] at this
  have upto : ∀ j < n, ∀ t ≤ n, (K t j ↔ valid j ∧ ∀ i < t, i < j → K n i → ¬ S i j) := by
    intro j hj t
    induction t with
    | zero => intro _; rw [h0 j hj]; exact ⟨fun h => ⟨h, fun i hi => by omega⟩, fun h => h.1⟩
    | succ t ih =>
      intro ht
      rw [hs t (by omega) j hj, ih (by omega), ← fin t (by omega)]
      constructor
      · rintro ⟨⟨hv, h⟩, h'⟩
        refine ⟨hv, fun i hi hij hk hS => ?_⟩
        rcases Nat.lt_succ_iff_lt_or_eq.mp hi with hlt | rfl
        · exact h i hlt hij hk hS
        · exact h' ⟨hS, hij, hk⟩
      · rintro ⟨hv, h⟩
        exact ⟨⟨hv, fun i hi => h i (by omega)⟩, fun hh => h t (by omega) hh.2.1 hh.2.2 hh.1⟩
  intro j hj
  rw [upto j hj n le_rfl]
  exact ⟨fun h => ⟨h.1, fun i hi => h.2 i (by omega) hi⟩, fun h => ⟨h.1, fun i _ hi => h.2 i hi⟩⟩

/-- Kept positions before the others, each group in order. -/
def Before (Keep : ℕ → Prop) (p q : ℕ) : Prop := (Keep p ∧ ¬ Keep q) ∨ ((Keep p ↔ Keep q) ∧ p < q)

/-- A run of the taking loop over `T` trips: `a`, `r` the active and the untaken positions before a trip, `pick` the
    position it takes and `has` whether it took an active one. -/
structure Run (n T : ℕ) (valid : ℕ → Prop) (S : ℕ → ℕ → Prop) (a r : ℕ → ℕ → Prop) (pick : ℕ → ℕ) (has : ℕ → Prop) : Prop where
  a0 : ∀ p, a 0 p ↔ p < n ∧ valid p
  r0 : ∀ p, r 0 p ↔ p < n
  take : ∀ t < T, (∃ x, r t x) →
    (has t ∧ a t (pick t) ∧ ∀ x, a t x → pick t ≤ x) ∨
      (¬ has t ∧ (∀ x, ¬ a t x) ∧ r t (pick t) ∧ ∀ x, r t x → pick t ≤ x)
  stepR : ∀ t < T, ∀ p, r (t + 1) p ↔ r t p ∧ p ≠ pick t
  stepA : ∀ t < T, (∃ x, r t x) → ∀ p, a (t + 1) p ↔ a t p ∧ p ≠ pick t ∧ ¬ (has t ∧ pick t < p ∧ S (pick t) p)

section

variable {n T : ℕ} {valid : ℕ → Prop} {S : ℕ → ℕ → Prop} {a r : ℕ → ℕ → Prop} {pick : ℕ → ℕ} {has : ℕ → Prop}
  {Keep : ℕ → Prop}

/-- What holds before trip `t`. -/
structure Inv (n : ℕ) (valid : ℕ → Prop) (S : ℕ → ℕ → Prop) (Keep : ℕ → Prop) (a r : ℕ → ℕ → Prop) (pick : ℕ → ℕ)
    (has : ℕ → Prop) (t : ℕ) : Prop where
  lt : ∀ s < t, pick s < n
  ne : ∀ s < t, ∀ u < t, pick s = pick u → s = u
  kept : ∀ s < t, has s ↔ Keep (pick s)
  rem : ∀ p, r t p ↔ p < n ∧ ∀ s < t, p ≠ pick s
  act : ∀ p, a t p ↔ (p < n ∧ ∀ s < t, p ≠ pick s) ∧ valid p ∧ ∀ s < t, Keep (pick s) → pick s < p → ¬ S (pick s) p
  early : ∀ s < t, ∀ p < n, (∀ u ≤ s, p ≠ pick u) → Before Keep (pick s) p

/-- A kept position that is not taken is active. -/
theorem Inv.act_of_keep (hK : IsKeep n valid S Keep) {t : ℕ} (h : Inv n valid S Keep a r pick has t) {p : ℕ} (hp : p < n)
    (hn : ∀ s < t, p ≠ pick s) (hk : Keep p) : a t p :=
  (h.act p).mpr ⟨⟨hp, hn⟩, ((hK p hp).mp hk).1, fun _ _ hs hlt => ((hK p hp).mp hk).2 _ hlt hs⟩

/-- Fewer trips than positions leave one untaken. -/
theorem Inv.exists_rem {t : ℕ} (h : Inv n valid S Keep a r pick has t) (ht : t < n) : ∃ x, r t x := by
  by_contra hc
  push Not at hc
  have hsub : Finset.range n ⊆ (Finset.range t).image pick := by
    intro p hp
    by_contra hno
    refine hc p ((h.rem p).mpr ⟨Finset.mem_range.mp hp, fun s hs he => hno ?_⟩)
    exact Finset.mem_image.mpr ⟨s, Finset.mem_range.mpr hs, he.symm⟩
  have h1 := Finset.card_le_card hsub
  have h2 := Finset.card_image_le (s := Finset.range t) (f := pick)
  rw [Finset.card_range] at h1 h2
  omega

/-- The facts hold before every trip. -/
theorem inv (hK : IsKeep n valid S Keep) (hT : T ≤ n) (hr : Run n T valid S a r pick has) :
    ∀ t ≤ T, Inv n valid S Keep a r pick has t := by
  intro t
  induction t with
  | zero =>
    intro _
    refine ⟨fun s hs => by omega, fun s hs => by omega, fun s hs => by omega, fun p => ?_, fun p => ?_, fun s hs => by omega⟩
    · rw [hr.r0]; exact ⟨fun h => ⟨h, fun s hs => by omega⟩, fun h => h.1⟩
    · rw [hr.a0]; exact ⟨fun h => ⟨⟨h.1, fun s hs => by omega⟩, h.2, fun s hs => by omega⟩, fun h => ⟨h.1.1, h.2.1⟩⟩
  | succ t ih =>
    intro ht
    have h := ih (by omega)
    have key : pick t < n ∧ (∀ s < t, pick t ≠ pick s) ∧ (has t ↔ Keep (pick t)) ∧
        (∀ p < n, (∀ u < t, p ≠ pick u) → p ≠ pick t → Before Keep (pick t) p) := by
      rcases hr.take t (by omega) (h.exists_rem (by omega)) with ⟨hh, ha, hmin⟩ | ⟨hh, hno, hrm, hmin⟩
      · obtain ⟨⟨hlt, hnew⟩, hv, hs⟩ := (h.act _).mp ha
        have hkeep : Keep (pick t) := by
          refine (hK _ hlt).mpr ⟨hv, fun q hq hkq => ?_⟩
          by_cases hpk : ∃ s < t, q = pick s
          · obtain ⟨s, hs', rfl⟩ := hpk
            exact hs s hs' hkq hq
          · push Not at hpk
            have := hmin q (h.act_of_keep hK (by omega) hpk hkq)
            omega
        refine ⟨hlt, hnew, ⟨fun _ => hkeep, fun _ => hh⟩, fun p hp hpn hne => ?_⟩
        by_cases hk : Keep p
        · have := hmin p (h.act_of_keep hK hp hpn hk)
          exact .inr ⟨⟨fun _ => hk, fun _ => hkeep⟩, by omega⟩
        · exact .inl ⟨hkeep, hk⟩
      · obtain ⟨hlt, hnew⟩ := (h.rem _).mp hrm
        have hnk : ∀ p < n, (∀ u < t, p ≠ pick u) → ¬ Keep p := fun p hp hpn hk => hno p (h.act_of_keep hK hp hpn hk)
        refine ⟨hlt, hnew, ⟨fun h' => absurd h' hh, fun h' => absurd h' (hnk _ hlt hnew)⟩, fun p hp hpn hne => ?_⟩
        have := hmin p ((h.rem p).mpr ⟨hp, hpn⟩)
        exact .inr ⟨⟨fun h' => absurd h' (hnk _ hlt hnew), fun h' => absurd h' (hnk p hp hpn)⟩, by omega⟩
    obtain ⟨klt, knew, khas, kearly⟩ := key
    refine ⟨fun s hs => ?_, fun s hs u hu he => ?_, fun s hs => ?_, fun p => ?_, fun p => ?_, fun s hs p hp hn => ?_⟩
    · rcases Nat.lt_succ_iff_lt_or_eq.mp hs with h' | rfl
      exacts [h.lt s h', klt]
    · rcases Nat.lt_succ_iff_lt_or_eq.mp hs with h1 | rfl <;> rcases Nat.lt_succ_iff_lt_or_eq.mp hu with h2 | rfl
      · exact h.ne s h1 u h2 he
      · exact absurd he.symm (knew s h1)
      · exact absurd he (knew u h2)
      · rfl
    · rcases Nat.lt_succ_iff_lt_or_eq.mp hs with h' | rfl
      exacts [h.kept s h', khas]
    · rw [hr.stepR t (by omega), h.rem]
      constructor
      · rintro ⟨⟨h1, h2⟩, h3⟩
        refine ⟨h1, fun s hs => ?_⟩
        rcases Nat.lt_succ_iff_lt_or_eq.mp hs with h' | rfl
        exacts [h2 s h', h3]
      · rintro ⟨h1, h2⟩
        exact ⟨⟨h1, fun s hs => h2 s (by omega)⟩, h2 t (by omega)⟩
    · rw [hr.stepA t (by omega) (h.exists_rem (by omega)), h.act]
      constructor
      · rintro ⟨⟨⟨h1, h2⟩, h3, h4⟩, h5, h6⟩
        refine ⟨⟨h1, fun s hs => ?_⟩, h3, fun s hs hk hlt hS => ?_⟩
        · rcases Nat.lt_succ_iff_lt_or_eq.mp hs with h' | rfl
          exacts [h2 s h', h5]
        · rcases Nat.lt_succ_iff_lt_or_eq.mp hs with h' | rfl
          · exact h4 s h' hk hlt hS
          · exact h6 ⟨khas.mpr hk, hlt, hS⟩
      · rintro ⟨⟨h1, h2⟩, h3, h4⟩
        exact ⟨⟨⟨h1, fun s hs => h2 s (by omega)⟩, h3, fun s hs => h4 s (by omega)⟩, h2 t (by omega),
          fun h' => h4 t (by omega) (khas.mp h'.1) h'.2.1 h'.2.2⟩
    · rcases Nat.lt_succ_iff_lt_or_eq.mp hs with h' | rfl
      · exact h.early s h' p hp hn
      · exact kearly p hp (fun u hu => hn u (by omega)) (hn s le_rfl)

/-- Every trip takes a position below `n`. -/
theorem pick_lt (hK : IsKeep n valid S Keep) (hT : T ≤ n) (hr : Run n T valid S a r pick has) {t : ℕ} (ht : t < T) :
    pick t < n := (inv hK hT hr T le_rfl).lt t ht

/-- No two trips take the same position. -/
theorem pick_inj (hK : IsKeep n valid S Keep) (hT : T ≤ n) (hr : Run n T valid S a r pick has) {s t : ℕ} (hs : s < T)
    (ht : t < T) (h : pick s = pick t) : s = t := (inv hK hT hr T le_rfl).ne s hs t ht h

/-- A trip takes an active position exactly when what it takes is kept. -/
theorem has_iff (hK : IsKeep n valid S Keep) (hT : T ≤ n) (hr : Run n T valid S a r pick has) {t : ℕ} (ht : t < T) :
    has t ↔ Keep (pick t) := (inv hK hT hr T le_rfl).kept t ht

/-- What a trip takes comes before every position not taken by then. -/
theorem pick_before (hK : IsKeep n valid S Keep) (hT : T ≤ n) (hr : Run n T valid S a r pick has) {t : ℕ} (ht : t < T)
    {p : ℕ} (hp : p < n) (hn : ∀ s ≤ t, p ≠ pick s) : Before Keep (pick t) p :=
  (inv hK hT hr T le_rfl).early t ht p hp hn

end

end Cert.Proof.NmsMath
-- ==== Proof.NmsValue.lean ====
/-
  The second kernel call at the extended reals: what one trip does to the marks and what it stores, in plain terms, and
  so the whole loop as a run of the taking loop of NmsMath.
-/
module

public import proofs.«01_k».proof.Proof.NmsMath
public import proofs.«01_k».proof.Proof.NmsBody

@[expose] public section

set_option maxRecDepth 16384

noncomputable section

namespace Cert.Proof.Run

open Cert.KernelIdeal Cert.KernelIdeal.Gen
open Idealize.ShloMosaic Idealize.ShloMosaic.TcCoe Idealize.ShloMosaic.Tactic

/-- The overlap of two boxes `p`, `q` with corners and areas given: intersection over union, as both programs round off
    its denominator. -/
def overlap (p0 p1 p2 p3 pa q0 q1 q2 q3 qa : EReal) : EReal :=
  Ideal.div (max (min p2 q2 - max p0 q0 + 1) 0 * max (min p3 q3 - max p1 q1 + 1) 0)
    (pa + qa - max (min p2 q2 - max p0 q0 + 1) 0 * max (min p3 q3 - max p1 q1 + 1) 0 + Ideal.ofBits .f32 0x3089705F#32)

/-- The overlap of two boxes does not depend on their order. -/
theorem overlap_comm (p0 p1 p2 p3 pa q0 q1 q2 q3 qa : EReal) :
    overlap p0 p1 p2 p3 pa q0 q1 q2 q3 qa = overlap q0 q1 q2 q3 qa p0 p1 p2 p3 pa := by
  unfold overlap
  rw [min_comm p2, min_comm p3, max_comm p0, max_comm p1, add_comm pa]

/-- The word of a decided proposition is one exactly when it holds. -/
theorem ofBool_eq_one (P : Prop) [Decidable P] : BitVec.ofBool (decide P) = 1#1 ↔ P := by
  by_cases h : P <;> simp [h]

/-- The widened word of a decided proposition is not zero exactly when it holds. -/
theorem setWidth_ofBool_ne (P : Prop) [Decidable P] : BitVec.setWidth 32 (BitVec.ofBool (decide P)) ≠ 0#32 ↔ P := by
  by_cases h : P <;> simp [h]

/-- Words below 2^31 compare as the numbers do. -/
theorem sgt_iff {p q : ℕ} (hp : p < 2 ^ 31) (hq : q < 2 ^ 31) :
    IntOp.cmpi .sgt (BitVec.ofNat 32 p) (BitVec.ofNat 32 q) = 1#1 ↔ q < p := by
  have e : ∀ {n : ℕ}, n < 2 ^ 31 → (BitVec.ofNat 32 n).toInt = n := by
    intro n hn
    rw [BitVec.toInt_eq_toNat_of_lt] <;> rw [BitVec.toNat_ofNat] <;> omega
  rw [show IntOp.cmpi .sgt (BitVec.ofNat 32 p) (BitVec.ofNat 32 q) = BitVec.ofBool (BitVec.slt (BitVec.ofNat 32 q) (BitVec.ofNat 32 p)) from rfl,
    BitVec.slt, e hp, e hq, ofBool_eq_one]
  omega

/-- Two words differ. -/
theorem ne_iff (a b : BitVec 32) : IntOp.cmpi .ne a b = 1#1 ↔ a ≠ b := by
  by_cases h : a = b
  · subst h; simp [IntOp.cmpi]
  · have hb : (a != b) = true := by simpa using h
    simp [IntOp.cmpi, hb, h]

/-- A mark kept through a trip: set before, not suppressed, not the one taken. -/
theorem mark_ne (a : BitVec 32) (s g h c : BitVec 1) :
    BitVec.setWidth 32 (IntOp.andi (IntOp.andi (IntOp.cmpi .ne a 0#32) (IntOp.xori (IntOp.andi (IntOp.andi s g) h) 1#1)) c) ≠ 0#32 ↔
      a ≠ 0#32 ∧ c = 1#1 ∧ ¬ (h = 1#1 ∧ g = 1#1 ∧ s = 1#1) := by
  have ha : IntOp.cmpi .ne a 0#32 = BitVec.ofBool (decide (a ≠ 0#32)) := by
    by_cases h0 : a = 0#32
    · subst h0; rfl
    · have hb : (a != 0#32) = true := by simpa using h0
      simp [IntOp.cmpi, hb, h0]
  rw [ha]
  by_cases h0 : a ≠ 0#32
  · simp only [h0, not_false_eq_true, ne_eq, decide_true, true_and]
    revert s g h c; decide
  · simp only [h0, decide_false, false_and, iff_false]
    revert s g h c; decide

/-- A candidate's row, read at a column. -/
theorem rowAt_ix (X : S1024x16.Idx → Ideal .f32) (w : BitVec 32) (k : Fin 16) :
    rowAt X w (ix2 0 k) = X (ix2 (n0 := 1024) (n1 := 16) ⟨w.toNat % 1024, Nat.mod_lt _ (by decide)⟩ k) := rfl

/-- Whether the candidate in row `p` of the table overlaps the one at index `i` of the planes too much. -/
def supAt (X : S1024x16.Idx → Ideal .f32) (v5 v7 v9 v11 v13 : Vec Ideal S8x128 .f32) (p : ℕ) (i : S8x128.Idx) : Prop :=
  Ideal.ofBits .f32 0x3F19999A#32 < overlap (v5 i) (v7 i) (v9 i) (v11 i) (v13 i)
    (X (ix2 (n0 := 1024) (n1 := 16) ⟨p % 1024, Nat.mod_lt _ (by decide)⟩ 4))
    (X (ix2 (n0 := 1024) (n1 := 16) ⟨p % 1024, Nat.mod_lt _ (by decide)⟩ 5))
    (X (ix2 (n0 := 1024) (n1 := 16) ⟨p % 1024, Nat.mod_lt _ (by decide)⟩ 6))
    (X (ix2 (n0 := 1024) (n1 := 16) ⟨p % 1024, Nat.mod_lt _ (by decide)⟩ 7))
    (X (ix2 (n0 := 1024) (n1 := 16) ⟨p % 1024, Nat.mod_lt _ (by decide)⟩ 8))

/-- Which marks stay active through a trip. -/
theorem nextA_ne (X : S1024x16.Idx → Ideal .f32) (v5 v7 v9 v11 v13 : Vec Ideal S8x128 .f32) (s : Marks) (i : S8x128.Idx) :
    nextA X v5 v7 v9 v11 v13 s i ≠ 0#32 ↔ s.1 i ≠ 0#32 ∧
      IntOp.cmpi .ne (BitVec.ofNat 32 (posOf i)) (pickW s.1 s.2) = 1#1 ∧
      ¬ (hasW s.1 = 1#1 ∧ IntOp.cmpi .sgt (BitVec.ofNat 32 (posOf i)) (pickW s.1 s.2) = 1#1 ∧
        supAt X v5 v7 v9 v11 v13 (pickW s.1 s.2).toNat i) := by
  unfold nextA k1_pay10 k1_pay29 k1_pay28 k1_pay12 k1_pay5 k1_pay6 k1_pay24 k1_pay25 k1_pay26 k1_pay27 k1_pay2 k1_pay3 k1_pay4 k1_pay21
  unfold k1_pay16 supAt
  simp only [← rowAt_ix]
  generalize pickW s.1 s.2 = w
  generalize hasW s.1 = h
  generalize rowAt X w = R
  rw [← pay1_apply]
  idx_vars i
  pointwise
  rw [mark_ne]
  refine and_congr_right fun _ => and_congr_right fun _ => not_congr (and_congr_right fun _ => and_congr_right fun _ => ?_)
  unfold overlap
  exact ofBool_eq_one _

/-- What a trip stores: the taken candidate's box, its score if it was active and zero if not, its label. -/
theorem outRow_eq (X : S1024x16.Idx → Ideal .f32) (s : Marks) (k : Fin 8) :
    outRow X s (ix2 0 k) =
      if k.val < 4 then rowAt X (pickW s.1 s.2) (ix2 0 ⟨k.val % 16, Nat.mod_lt _ (by decide)⟩)
      else if k.val = 4 then (if hasW s.1 = 1#1 then rowAt X (pickW s.1 s.2) (ix2 0 9) else 0)
      else if k.val = 5 then rowAt X (pickW s.1 s.2) (ix2 0 10) else 0 := by
  unfold outRow k1_pay9 k1_pay17 k1_pay18 k1_pay19 k1_pay20 k1_pay23 k1_pay31 k1_pay22 k1_pay32 k1_pay33 k1_pay34 k1_pay35 k1_pay36 k1_pay37
  unfold k1_pay16
  generalize pickW s.1 s.2 = w
  generalize hasW s.1 = h
  generalize hR : rowAt X w = R
  pointwise
  have hh : Scalar.select h (R (ix2 0 9)) 0 = if h = 1#1 then R (ix2 0 9) else 0 := rfl
  rw [hh]
  fin_cases k <;> rfl

/-! ## The loop as a run of the taking loop -/

section

variable (X : S1024x16.Idx → Ideal .f32) (x1 y1 x2 y2 ar ac : Vec Ideal S8x128 .f32)

/-- The marks before trip `t`, from the kernel's first marks. -/
def marksAt (t : ℕ) : Marks := stM X x1 y1 x2 y2 ar (k1_pay7 ac, k1_pay8) t

/-- The active positions before trip `t`. -/
def actP (t p : ℕ) : Prop := ∃ i, posOf i = p ∧ (marksAt X x1 y1 x2 y2 ar ac t).1 i ≠ 0#32
/-- The untaken positions before trip `t`. -/
def remP (t p : ℕ) : Prop := ∃ i, posOf i = p ∧ (marksAt X x1 y1 x2 y2 ar ac t).2 i ≠ 0#32
/-- The position trip `t` takes. -/
def pickP (t : ℕ) : ℕ := (pickW (marksAt X x1 y1 x2 y2 ar ac t).1 (marksAt X x1 y1 x2 y2 ar ac t).2).toNat
/-- Whether trip `t` takes an active position. -/
def hasP (t : ℕ) : Prop := hasW (marksAt X x1 y1 x2 y2 ar ac t).1 = 1#1
/-- The suppression relation on positions. -/
def supP (p q : ℕ) : Prop := ∃ i, posOf i = q ∧ supAt X x1 y1 x2 y2 ar p i
/-- The positions the kernel starts with as active. -/
def validP (p : ℕ) : Prop := ∃ i, posOf i = p ∧ 0 < ac i

theorem marksAt_succ (t : ℕ) : marksAt X x1 y1 x2 y2 ar ac (t + 1) = stepM X x1 y1 x2 y2 ar (marksAt X x1 y1 x2 y2 ar ac t) :=
  Function.iterate_succ_apply' _ _ _

/-- A lane starts active exactly when its flag is positive. -/
theorem pay7_ne (i : S8x128.Idx) : k1_pay7 ac i ≠ 0#32 ↔ 0 < ac i := by
  unfold k1_pay7
  idx_vars i
  pointwise
  exact setWidth_ofBool_ne _

/-- A lane's position fits its word. -/
theorem toNat_pos (i : S8x128.Idx) : (BitVec.ofNat 32 (posOf i)).toNat = posOf i := by
  rw [BitVec.toNat_ofNat]
  exact Nat.mod_eq_of_lt (by have := posOf_lt i; omega)

/-- The kernel's loop is a run of the taking loop, when the padding lanes start inactive. -/
theorem nms_runs (hpad : ∀ i, 1000 ≤ posOf i → ¬ 0 < ac i) :
    NmsMath.Run 1000 100 (validP ac) (supP X x1 y1 x2 y2 ar) (actP X x1 y1 x2 y2 ar ac) (remP X x1 y1 x2 y2 ar ac)
      (pickP X x1 y1 x2 y2 ar ac) (hasP X x1 y1 x2 y2 ar ac) := by
  have spec : ∀ t, (∃ x, remP X x1 y1 x2 y2 ar ac t x) → _ := fun t ⟨_, i, _, hi⟩ =>
    pickW_spec (marksAt X x1 y1 x2 y2 ar ac t).1 (marksAt X x1 y1 x2 y2 ar ac t).2 ⟨i, hi⟩
  have pos_eq : ∀ i j, BitVec.ofNat 32 (posOf i) = BitVec.ofNat 32 (posOf j) ↔ posOf i = posOf j := fun i j =>
    ⟨fun h => by rw [← toNat_pos i, h, toNat_pos], fun h => by rw [h]⟩
  refine ⟨fun p => ?_, fun p => ?_, fun t _ hr => ?_, fun t _ p => ?_, fun t _ hr p => ?_⟩
  · constructor
    · rintro ⟨i, rfl, hi⟩
      have hi' := (pay7_ne ac i).mp hi
      exact ⟨by by_contra hc; exact hpad i (by omega) hi', i, rfl, hi'⟩
    · rintro ⟨-, i, rfl, hi⟩
      exact ⟨i, rfl, (pay7_ne ac i).mpr hi⟩
  · constructor
    · rintro ⟨i, rfl, hi⟩
      exact (pay8_ne i).mp hi
    · intro hp
      refine ⟨laneOf p (by omega), posOf_laneOf _ _, (pay8_ne _).mpr ?_⟩
      rwa [posOf_laneOf]
  · obtain ⟨i, hw, h⟩ := spec t hr
    have hp : pickP X x1 y1 x2 y2 ar ac t = posOf i := by rw [pickP, hw, toNat_pos]
    rw [hp]
    rcases h with ⟨hh, ha, hm⟩ | ⟨hh, h0, ha, hm⟩
    · exact .inl ⟨hh, ⟨i, rfl, ha⟩, fun x ⟨j, hj, hja⟩ => hj ▸ hm j hja⟩
    · refine .inr ⟨fun h' => ?_, fun x ⟨j, _, hja⟩ => hja (h0 j), ⟨i, rfl, ha⟩, fun x ⟨j, hj, hja⟩ => hj ▸ hm j hja⟩
      rw [hasP, hh] at h'
      exact absurd h' (by decide)
  · have hne : ∀ i, BitVec.ofNat 32 (posOf i) ≠ pickW (marksAt X x1 y1 x2 y2 ar ac t).1 (marksAt X x1 y1 x2 y2 ar ac t).2 ↔
        posOf i ≠ pickP X x1 y1 x2 y2 ar ac t := by
      intro i
      refine not_congr ⟨fun h => by rw [pickP, ← h, toNat_pos], fun h => ?_⟩
      rw [h, pickP, BitVec.ofNat_toNat, BitVec.setWidth_eq]
    unfold remP
    rw [marksAt_succ]
    constructor
    · rintro ⟨i, rfl, hi⟩
      obtain ⟨h1, h2⟩ := (nextR_ne _ i).mp hi
      exact ⟨⟨i, rfl, h1⟩, (hne i).mp h2⟩
    · rintro ⟨⟨i, rfl, h1⟩, h2⟩
      exact ⟨i, rfl, (nextR_ne _ i).mpr ⟨h1, (hne i).mpr h2⟩⟩
  · obtain ⟨j, hw, -⟩ := spec t hr
    have hp : pickP X x1 y1 x2 y2 ar ac t = posOf j := by rw [pickP, hw, toNat_pos]
    have key : ∀ i, (marksAt X x1 y1 x2 y2 ar ac (t + 1)).1 i ≠ 0#32 ↔ (marksAt X x1 y1 x2 y2 ar ac t).1 i ≠ 0#32 ∧
        posOf i ≠ posOf j ∧ ¬ (hasP X x1 y1 x2 y2 ar ac t ∧ posOf j < posOf i ∧ supAt X x1 y1 x2 y2 ar (posOf j) i) := by
      intro i
      rw [marksAt_succ]
      refine (nextA_ne X x1 y1 x2 y2 ar _ i).trans ?_
      rw [hw, ne_iff, toNat_pos, sgt_iff (by have := posOf_lt i; omega) (by have := posOf_lt j; omega)]
      exact and_congr_right fun _ => and_congr_left fun _ => not_congr (pos_eq i j)
    rw [hp]
    constructor
    · rintro ⟨i, rfl, hi⟩
      obtain ⟨h1, h2, h3⟩ := (key i).mp hi
      refine ⟨⟨i, rfl, h1⟩, h2, fun ⟨a, b, i', hi', c⟩ => h3 ⟨a, b, ?_⟩⟩
      rwa [← posOf_inj hi']
    · rintro ⟨⟨i, rfl, h1⟩, h2, h3⟩
      exact ⟨i, rfl, (key i).mpr ⟨h1, h2, fun ⟨a, b, c⟩ => h3 ⟨a, b, i, rfl, c⟩⟩⟩

end

end Cert.Proof.Run

end
-- ==== Proof.Selection.lean ====
module

public import Idealize.ShloMosaic.Lib.SortPrefix
public import Idealize.ShloMosaic.Lib.Pointwise

/-! The best positions of a whole list, found by ranking each class by itself and then ranking the winners. -/

@[expose] public section

noncomputable section

namespace Cert.Proof.Selection

open Idealize.ShloMosaic

/-- Inserting an element that stands before every element of the list is the same under two orders that agree whenever
    the right position is smaller. -/
theorem insert_same {n : Nat} (R B : Fin n → Fin n → Bool) (hRB : ∀ a b, a < b → R b a = B b a) (a : Fin n)
    (l : List (Fin n)) (h : ∀ b ∈ l, a < b) : insertBefore R a l = insertBefore B a l := by
  induction l with
  | nil => rfl
  | cons b l ih =>
    unfold insertBefore
    rw [hRB a b (h b (by simp)), ih (fun c hc => h c (by simp [hc]))]

/-- The stable sort of an increasing list is the same under two orders that agree whenever the right position is
    smaller. -/
theorem stable_same {n : Nat} (R B : Fin n → Fin n → Bool) (hRB : ∀ a b, a < b → R b a = B b a)
    (l : List (Fin n)) (h : l.Pairwise (· < ·)) : stableSort R l = stableSort B l := by
  induction l with
  | nil => rfl
  | cons a l ih =>
    rw [List.pairwise_cons] at h
    unfold stableSort
    rw [ih h.2]
    exact insert_same R B hRB a _ fun b hb => h.1 b ((perm_stableSort B l).mem_iff.mp hb)

/-- Greatest key first, and of two equal keys the earlier position first. -/
def first {n : Nat} (f : Fin n → EReal) (p q : Fin n) : Bool :=
  decide (f q < f p) || (decide (f p = f q) && decide (p < q))

/-- What it means to come first: a greater value, or an equal one at a smaller place. -/
theorem first_iff {n : Nat} (f : Fin n → EReal) (p q : Fin n) :
    first f p q = true ↔ f q < f p ∨ (f p = f q ∧ p < q) := by
  simp [first]

/-- That order is a strict total one. -/
theorem first_total {n : Nat} (f : Fin n → EReal) : StrictTotalBefore (first f) :=
  StrictTotalBefore.of_key_then_position (fun a b : EReal => decide (b < a)) f (fun a => by simp)
    (fun a b c h h' => by simp at h h' ⊢; exact lt_trans h' h)
    (fun a b => by rcases lt_trichotomy a b with h | h | h <;> simp [h])

/-- The stable descending sort by the keys alone is the sort by keys and then positions. -/
theorem sort_first {n : Nat} (f : Fin n → EReal) :
    sortedFrom (fun p q => decide (f q < f p)) = sortedFrom (first f) := by
  have e : sortPositions n (fun p q => decide (f q < f p)) = sortPositions n (first f) := by
    unfold sortPositions
    refine stable_same _ _ (fun a b hab => ?_) _ (List.pairwise_lt_finRange n)
    simp [first, not_lt.mpr hab.le]
  funext k
  unfold sortedFrom
  rw [List.get_of_eq e]
  rfl

/-- A sort by a strict total order leaves no inversion. -/
theorem no_inversion {n : Nat} {B : Fin n → Fin n → Bool} (hB : StrictTotalBefore B) (i j : Fin n) (h : i < j) :
    B (sortedFrom B j) (sortedFrom B i) = false :=
  sortedFrom_noInversion B B (fun a b h => hB.asymm a b h) (fun _ _ h => h) (fun a b c h h1 => hB.negTrans a b c h h1) i j h

/-- Rank each class, keep its best `K`, rank what was kept by key and position: the first `K` of these are the first
    `K` of the whole list. -/
theorem two_stage {N L C K E : Nat} (f : Fin N → EReal) (pos : Fin C → Fin L → Fin N)
    (hinj : ∀ c l c' l', pos c l = pos c' l' → c = c' ∧ l = l') (hsurj : ∀ p, ∃ c l, pos c l = p)
    (hmono : ∀ c l l', l < l' → pos c l < pos c l') (hKL : K ≤ L) (hKE : K ≤ E) (hKN : K ≤ N)
    (cls : Fin E → Fin C) (rk : Fin E → Fin K) (hcr : ∀ c j, ∃ e, cls e = c ∧ rk e = j)
    (hcri : ∀ e e', cls e = cls e' → rk e = rk e' → e = e')
    (P : Fin E → Fin N)
    (hP : ∀ e, P e = pos (cls e)
      (sortedFrom (fun l l' => decide (f (pos (cls e) l') < f (pos (cls e) l))) ((rk e).castLE hKL)))
    (R : Fin E → Fin E → Bool) (hR : ∀ e e', R e e' = first f (P e) (P e')) (i : Fin K) :
    sortedFrom (fun p q => decide (f q < f p)) (i.castLE hKN) = P (sortedFrom R (i.castLE hKE)) := by
  rw [sort_first]
  have hB := first_total f
  have hPi : Function.Injective P := by
    intro e e' h
    rw [hP, hP] at h
    obtain ⟨h1, h2⟩ := hinj _ _ _ _ h
    refine hcri e e' h1 ?_
    rw [h1] at h2
    have := sortedFrom_injective _ h2
    simpa using this
  have hRt : StrictTotalBefore R :=
    ⟨fun a => by rw [hR]; exact hB.irrefl _,
     fun a b c h h' => by rw [hR] at h h' ⊢; exact hB.trans _ _ _ h h',
     fun a b h => by rw [hR, hR]; exact hB.total _ _ (fun h' => h (hPi h'))⟩
  refine hB.sortedFrom_eq_of_prefix hKN (fun i => P (sortedFrom R (i.castLE hKE)))
    (fun a b h => by simpa using sortedFrom_injective _ (hPi h))
    (fun a b h => ?_) (fun a p hp => ?_) i
  · rw [← hR]
    exact no_inversion hRt _ _ (by simpa using h)
  · by_contra hb
    rw [Bool.not_eq_false] at hb
    obtain ⟨c, l, rfl⟩ := hsurj p
    by_cases hl : ∃ j : Fin K, sortedFrom (fun l l' => decide (f (pos c l') < f (pos c l))) (j.castLE hKL) = l
    · obtain ⟨j, rfl⟩ := hl
      obtain ⟨e, rfl, rfl⟩ := hcr c j
      rw [← hP] at hb hp
      obtain ⟨k, rfl⟩ := sortedFrom_surjective R e
      have hk : ¬ k.val < K := fun hk => hp ⟨k.val, hk⟩ rfl
      have := no_inversion hRt (a.castLE hKE) k (by
        rw [Fin.lt_def]; simp only [Fin.val_castLE]; have := a.isLt; omega)
      rw [hR, hb] at this
      exact Bool.noConfusion this
    · have hall : ∀ j : Fin K, first f (pos c (sortedFrom (fun l l' => decide (f (pos c l') < f (pos c l)))
          (j.castLE hKL))) (pos c l) = true := by
        intro j
        have hc : sortedFrom (fun l l' => decide (f (pos c l') < f (pos c l)))
            = sortedFrom (first fun l => f (pos c l)) := sort_first fun l => f (pos c l)
        rw [hc] at hl ⊢
        obtain ⟨m, rfl⟩ := sortedFrom_surjective (first fun l => f (pos c l)) l
        have hm : ¬ m.val < K := fun hm => hl ⟨⟨m.val, hm⟩, rfl⟩
        have hlt : j.castLE hKL < m := by
          rw [Fin.lt_def]; simp only [Fin.val_castLE]; have := j.isLt; omega
        have h1 := no_inversion (first_total fun l => f (pos c l)) _ _ hlt
        have hne : sortedFrom (first fun l => f (pos c l)) (j.castLE hKL)
            ≠ sortedFrom (first fun l => f (pos c l)) m := fun h => by
          rw [sortedFrom_injective _ h] at hlt; exact lt_irrefl _ hlt
        rcases (first_total fun l => f (pos c l)).total _ _ hne with h2 | h2
        · rw [first_iff] at h2 ⊢
          rcases h2 with h2 | h2
          · exact Or.inl h2
          · exact Or.inr ⟨h2.1, hmono _ _ _ h2.2⟩
        · rw [h1] at h2; exact Bool.noConfusion h2
      have hex : ∀ j : Fin K, ∃ k : Fin E, k.val < a.val ∧ cls (sortedFrom R k) = c ∧ rk (sortedFrom R k) = j := by
        intro j
        obtain ⟨e, he, hj⟩ := hcr c j
        obtain ⟨k, rfl⟩ := sortedFrom_surjective R e
        refine ⟨k, ?_, he, hj⟩
        have h3 := hall j
        rw [← hj] at h3
        subst he
        rw [← hP] at h3
        have h4 := hB.trans _ _ _ h3 hb
        rw [← hR] at h4
        by_contra hk
        rcases Nat.lt_or_ge a.val k.val with h5 | h5
        · have := no_inversion hRt (a.castLE hKE) k (by rw [Fin.lt_def]; simpa using h5)
          rw [h4] at this; exact Bool.noConfusion this
        · have hka : k = a.castLE hKE := by apply Fin.ext; simp only [Fin.val_castLE]; omega
          rw [hka, hRt.irrefl] at h4; exact Bool.noConfusion h4
      choose κ hκ1 hκ2 hκ3 using hex
      have hinjκ : Function.Injective (fun j : Fin K => (⟨(κ j).val, hκ1 j⟩ : Fin a.val)) := by
        intro j j' h
        simp only [Fin.mk.injEq] at h
        rw [← hκ3 j, ← hκ3 j', Fin.ext h]
      have := Fintype.card_le_of_injective _ hinjκ
      simp at this
      have := a.isLt
      omega

end Cert.Proof.Selection
-- ==== Proof.Select.lean ====
module

public import proofs.«01_k».proof.Proof.RefRun
public import proofs.«01_k».proof.Proof.KernelRun
public import proofs.«01_k».proof.Proof.NmsValue
public import proofs.«01_k».proof.Proof.Selection
public import Idealize.ShloMosaic.Lib.StableHlo.RunRead
public import Idealize.ShloMosaic.Lib.Pointwise

/-! The candidates the kernel selects are the candidates the reference selects, in the same order. -/

@[expose] public section

set_option maxRecDepth 16384

noncomputable section

namespace Cert.Proof.Select

open Idealize.ShloMosaic Idealize.ShloMosaic.TcCoe Idealize.ShloMosaic.Tactic Idealize.ShloMosaic.StableHlo
open Cert.Proof.Selection

/-- A flattened place `location * 80 + class` read from the table of scores. -/
def flat (x : (⟨2, ![20480, 80]⟩ : Shape).Idx → EReal) (p : Fin 1638400) : EReal :=
  x (ix2 ⟨p.val / 80, by omega⟩ ⟨p.val % 80, by omega⟩)

/-- The place of the `i`-th candidate: the `i`-th of all places by score. -/
def place (f : Fin 1638400 → EReal) (i : Fin 1000) : Fin 1638400 :=
  sortedFrom (fun p q => decide (f q < f p)) (i.castLE (by decide))

/-- Moving along the one axis of a list, and along the second axis of a table. -/
theorem along1 {n : ℕ} (j : (⟨1, ![n]⟩ : Shape).Idx) (k : Fin n) : j.along (0 : Fin 1) k = ix1 k := by
  rw [Shape.Idx.along_rank1]; funext a; fin_cases a; rfl

/-- An index of a matrix, with its second coordinate replaced. -/
theorem along2 {n k : ℕ} (a : Fin n) (b : Fin k) (c : Fin k) :
    (ix2 a b : (⟨2, ![n, k]⟩ : Shape).Idx).along (1 : Fin 2) c = ix2 a c := by
  funext d; fin_cases d <;> rfl

/-- The sort's order by scores alone. -/
theorem gt_word (x y : EReal) : ((FloatOps.cmpfTotal (F := Ideal) (φ := .f32) .gt x y : BitVec 1) == 1#1) = decide (y < x) := by
  rw [show (FloatOps.cmpfTotal (F := Ideal) (φ := .f32) .gt x y : BitVec 1) = BitVec.ofBool (decide (y < x)) from rfl]
  by_cases h : y < x <;> simp [h]

section
open Cert.ReferenceIdeal Cert.ReferenceIdeal.Gen

/-- The greatest entries of a list are its entries in order. -/
theorem top_value (x : S1638400.Idx → EReal) (i : Fin 1000) :
    (Host.topK S1000 0 (FloatOps.cmpfTotal (F := Ideal) (φ := .f32) .gt) x sliceFits_S1638400_S1000).1 (ix1 i)
      = x (ix1 (place (fun p => x (ix1 p)) i)) := by
  unfold Host.topK Host.sort2
  pointwise
  simp only [gt_word, along1]
  rfl

/-- The flattened table, read at a place. -/
theorem flat_read (x : S20480x80.Idx → EReal) (p : Fin 1638400) :
    shapeCast S1638400 x shapeCasts_S20480x80_S1638400 (ix1 p) = flat x p := by
  pointwise
  rfl

/-- The reference's selection: the candidate's score, -/
theorem ref_value (x : S20480x80.Idx → EReal) (i : Fin 1000) :
    (Host.topK S1000 0 (FloatOps.cmpfTotal (F := Ideal) (φ := .f32) .gt)
      (fun i => shapeCast S1638400 x shapeCasts_S20480x80_S1638400 i) sliceFits_S1638400_S1000).1 (ix1 i)
      = flat x (place (flat x) i) := by
  rw [top_value]
  simp only [flat_read]

/-- and its place. -/
theorem ref_index (x : S20480x80.Idx → EReal) (i : Fin 1000) :
    (Host.topK S1000 0 (FloatOps.cmpfTotal (F := Ideal) (φ := .f32) .gt)
      (fun i => shapeCast S1638400 x shapeCasts_S20480x80_S1638400 i) sliceFits_S1638400_S1000).2 (ix1 i)
      = BitVec.ofNat 32 (place (flat x) i).val := by
  unfold Host.topK Host.sort2
  pointwise
  simp only [gt_word, along1]
  rfl
end

section
open Cert.KernelIdeal Cert.KernelIdeal.Gen

/-- The kernel's sort compares the keys and then the places. -/
theorem comparator_word (l r : EReal × BitVec 32) : (comparator_f32_i32_d0 (F := Ideal) l r == 1#1)
    = (decide (l.1 < r.1) || (decide (l.1 = r.1) && l.2.slt r.2)) := by
  have e0 : ∀ x : EReal, (if x = 0 then 0 else x) = x := fun x => by split <;> simp_all
  have elt : ∀ x y : EReal, (FloatOps.cmpfTotal (F := Ideal) (φ := .f32) .lt x y : BitVec 1) = BitVec.ofBool (decide (x < y)) :=
    fun _ _ => rfl
  have eeq : ∀ x y : EReal, (FloatOps.cmpfTotal (F := Ideal) (φ := .f32) .eq x y : BitVec 1) = BitVec.ofBool (decide (x = y)) :=
    fun _ _ => rfl
  unfold comparator_f32_i32_d0
  pointwise
  simp only [ne_eq, not_true_eq_false, if_false, e0, elt, eeq, IntOp.cmpi, IntOp.ori, IntOp.andi]
  generalize decide (l.1 < r.1) = a
  generalize decide (l.1 = r.1) = b
  generalize l.2.slt r.2 = d
  revert a b d
  decide

/-- The rank of one class's scores. -/
def rank (x : S80x20480.Idx → EReal) (c : Fin 80) (j : Fin 1000) : Fin 20480 :=
  sortedFrom (fun l l' => decide (x (ix2 c l') < x (ix2 c l))) (j.castLE (by decide))

/-- The kernel's selection in one class: the score at a rank, -/
theorem class_value (x : S80x20480.Idx → EReal) (c : Fin 80) (j : Fin 1000) :
    (Host.topK S80x1000 1 (FloatOps.cmpfTotal (F := Ideal) (φ := .f32) .gt) x sliceFits_S80x20480_S80x1000).1 (ix2 c j)
      = x (ix2 c (rank x c j)) := by
  unfold Host.topK Host.sort2
  pointwise
  simp only [gt_word, along2]
  rfl

/-- and its location. -/
theorem class_index (x : S80x20480.Idx → EReal) (c : Fin 80) (j : Fin 1000) :
    (Host.topK S80x1000 1 (FloatOps.cmpfTotal (F := Ideal) (φ := .f32) .gt) x sliceFits_S80x20480_S80x1000).2 (ix2 c j)
      = BitVec.ofNat 32 (rank x c j).val := by
  unfold Host.topK Host.sort2
  pointwise
  simp only [gt_word, along2]
  rfl

/-- Class and rank of an entry of the kernel's merged list, and the place it stands for. -/
def clsOf (e : Fin 80000) : Fin 80 := ⟨e.val / 1000, by omega⟩
def rkOf (e : Fin 80000) : Fin 1000 := ⟨e.val % 1000, by omega⟩
def at80 (c : Fin 80) (l : Fin 20480) : Fin 1638400 := ⟨l.val * 80 + c.val, by omega⟩
def entry (x : S80x20480.Idx → EReal) (e : Fin 80000) : Fin 1638400 := at80 (clsOf e) (rank x (clsOf e) (rkOf e))

/-- The place of an entry, as the kernel's word. -/
theorem entry_word (x : S80x20480.Idx → EReal) (e : Fin 80000) :
    IntOp.addi (IntOp.muli (BitVec.ofNat 32 (rank x (clsOf e) (rkOf e)).val) 80#32) (BitVec.ofNat 32 (e.val / 1000))
      = BitVec.ofNat 32 (entry x e).val := by
  have h := (rank x (clsOf e) (rkOf e)).isLt
  apply BitVec.eq_of_toNat_eq
  simp only [IntOp.addi, IntOp.muli, entry, at80, clsOf, BitVec.toNat_add, BitVec.toNat_mul, BitVec.toNat_ofNat]
  omega

/-- Two words of places compare as the places do. -/
theorem slt_place (a b : ℕ) (ha : a < 1638400) (hb : b < 1638400) :
    (BitVec.ofNat 32 a).slt (BitVec.ofNat 32 b) = decide (a < b) := by
  rw [BitVec.slt, BitVec.toInt_eq_toNat_of_lt (by simp; omega), BitVec.toInt_eq_toNat_of_lt (by simp; omega)]
  simp only [BitVec.toNat_ofNat, Nat.cast_lt]
  rw [Nat.mod_eq_of_lt (by omega), Nat.mod_eq_of_lt (by omega)]

/-- The merged list's order is the order of the places it stands for. -/
theorem merged_order (f : Fin 1638400 → EReal) (k v : EReal) (a b : Fin 1638400) (hk : k = -f a) (hv : v = -f b) :
    (comparator_f32_i32_d0 (F := Ideal) (k, BitVec.ofNat 32 a.val) (v, BitVec.ofNat 32 b.val) == 1#1) = first f a b := by
  subst hk hv
  rw [comparator_word, slt_place _ _ a.isLt b.isLt]
  simp only [first, EReal.neg_lt_neg_iff, neg_inj, Fin.lt_def]

/-- The kernel's `i`-th candidate among the entries, from the scores of all classes. -/
def best (f : Fin 1638400 → EReal) (x : S80x20480.Idx → EReal) (i : Fin 1000) : Fin 80000 :=
  sortedFrom (fun e e' => first f (entry x e) (entry x e')) (i.castLE (by decide))

/-- The kernel's candidates are the reference's. -/
theorem entry_best (y : (⟨2, ![20480, 80]⟩ : Shape).Idx → EReal) (x : S80x20480.Idx → EReal)
    (h : ∀ c l, x (ix2 c l) = y (ix2 l c)) (i : Fin 1000) : entry x (best (flat y) x i) = place (flat y) i := by
  have hf : ∀ c l, flat y (at80 c l) = x (ix2 c l) := fun c l => by
    rw [h]; unfold flat at80
    congr 1
    exact congrArg₂ ix2 (Fin.ext (by show (l.val * 80 + c.val) / 80 = l.val; omega)) (Fin.ext (by show (l.val * 80 + c.val) % 80 = c.val; omega))
  refine (two_stage (K := 1000) (flat y) at80 ?_ ?_ ?_ (by decide) (by decide) (by decide) clsOf rkOf ?_ ?_ (entry x) ?_ _
    (fun _ _ => rfl) i).symm
  · intro c l c' l' hh
    have := congrArg Fin.val hh
    simp only [at80] at this
    exact ⟨Fin.ext (by omega), Fin.ext (by omega)⟩
  · intro p
    exact ⟨⟨p.val % 80, by omega⟩, ⟨p.val / 80, by omega⟩, Fin.ext (by simp only [at80]; omega)⟩
  · intro c l l' hl
    rw [Fin.lt_def] at hl ⊢
    simp only [at80]; omega
  · intro c j
    exact ⟨⟨c.val * 1000 + j.val, by omega⟩, Fin.ext (by simp only [clsOf]; omega), Fin.ext (by simp only [rkOf]; omega)⟩
  · intro e e' h1 h2
    have h1 := congrArg Fin.val h1
    have h2 := congrArg Fin.val h2
    simp only [clsOf, rkOf] at h1 h2
    exact Fin.ext (by omega)
  · intro e
    simp only [hf]
    rfl

/-- The merged list sorted: the keys, -/
theorem merged_key (f : Fin 1638400 → EReal) (x : S80x20480.Idx → EReal) (K : S80000.Idx → EReal) (W : IVec S80000 32)
    (hK : ∀ e, K (ix1 e) = -f (entry x e)) (hW : ∀ e, W (ix1 e) = BitVec.ofNat 32 (entry x e).val) (i : Fin 1000) (hi : i.val < 80000) :
    (Host.sort2 S80000 0 (comparator_f32_i32_d0 (F := Ideal)) K W).1 (ix1 ⟨i.val, hi⟩) = -f (entry x (best f x i)) := by
  unfold Host.sort2
  have ho : ∀ k k', (comparator_f32_i32_d0 (F := Ideal) (K (ix1 k), W (ix1 k)) (K (ix1 k'), W (ix1 k')) == 1#1)
      = first f (entry x k) (entry x k') := fun k k' => by
    rw [hW, hW]; exact merged_order f _ _ _ _ (hK k) (hK k')
  rw [dif_pos (by decide)]
  refine Eq.trans (congrArg K (along1 (n := 80000) _ _)) ((hK _).trans ?_)
  refine congrArg (fun e => -f (entry x e)) ?_
  refine congrFun (congrArg sortedFrom (funext fun k => funext fun k' => ?_)) _
  refine Eq.trans ?_ (ho k k')
  rw [← along1 (n := 80000) (ix1 ⟨i.val, hi⟩) k, ← along1 (n := 80000) (ix1 ⟨i.val, hi⟩) k']
  rfl

/-- and the places. -/
theorem merged_place (f : Fin 1638400 → EReal) (x : S80x20480.Idx → EReal) (K : S80000.Idx → EReal) (W : IVec S80000 32)
    (hK : ∀ e, K (ix1 e) = -f (entry x e)) (hW : ∀ e, W (ix1 e) = BitVec.ofNat 32 (entry x e).val) (i : Fin 1000) (hi : i.val < 80000) :
    (Host.sort2 S80000 0 (comparator_f32_i32_d0 (F := Ideal)) K W).2 (ix1 ⟨i.val, hi⟩) = BitVec.ofNat 32 (entry x (best f x i)).val := by
  unfold Host.sort2
  have ho : ∀ k k', (comparator_f32_i32_d0 (F := Ideal) (K (ix1 k), W (ix1 k)) (K (ix1 k'), W (ix1 k')) == 1#1)
      = first f (entry x k) (entry x k') := fun k k' => by
    rw [hW, hW]; exact merged_order f _ _ _ _ (hK k) (hK k')
  rw [dif_pos (by decide)]
  refine Eq.trans (congrArg W (along1 (n := 80000) _ _)) ((hW _).trans ?_)
  refine congrArg (fun e => BitVec.ofNat 32 (entry x e).val) ?_
  refine congrFun (congrArg sortedFrom (funext fun k => funext fun k' => ?_)) _
  refine Eq.trans ?_ (ho k k')
  rw [← along1 (n := 80000) (ix1 ⟨i.val, hi⟩) k, ← along1 (n := 80000) (ix1 ⟨i.val, hi⟩) k']
  rfl

variable (V : Valuation τ sig (Elt Ideal))

/-- An entry of the flat list, in the kernel's layout. -/
theorem flat_entry (y : (⟨2, ![20480, 80]⟩ : Shape).Idx → EReal) (x : S80x20480.Idx → EReal)
    (h : ∀ c l, x (ix2 c l) = y (ix2 l c)) (e : Fin 80000) : x (ix2 (clsOf e) (rank x (clsOf e) (rkOf e))) = flat y (entry x e) := by
  have hc := (clsOf e).isLt
  have hl := (rank x (clsOf e) (rkOf e)).isLt
  rw [h]
  refine congrArg y (congrArg₂ ix2 (Fin.ext ?_) (Fin.ext ?_))
  · show (rank x (clsOf e) (rkOf e)).val = ((rank x (clsOf e) (rkOf e)).val * 80 + (clsOf e).val) / 80
    omega
  · show (clsOf e).val = ((rank x (clsOf e) (rkOf e)).val * 80 + (clsOf e).val) % 80
    omega

/-- What the kernel's selection leaves: the candidates' places, -/
theorem ker_index (y : (⟨2, ![20480, 80]⟩ : Shape).Idx → EReal)
    (h : ∀ c l, V (Proc.devRef .tc main_v2) (ix2 c l) = y (ix2 l c)) (i : Fin 1000) :
    after hostOps1 V (Proc.devRef .tc main_v15) (ix1 i) = BitVec.ofNat 32 (place (flat y) i).val := by
  rw [← entry_best y (V (Proc.devRef .tc main_v2)) h i]
  after_reads_simp
  pointwise
  refine merged_place (flat y) _ _ _ (fun e => ?_) (fun e => ?_) i _
  · pointwise
    rw [← flat_entry y _ h]
    exact congrArg Neg.neg (class_value _ (clsOf e) (rkOf e))
  · refine Eq.trans ?_ (entry_word _ e)
    exact congrArg (fun w => IntOp.addi (IntOp.muli w 80#32) _) (class_index _ (clsOf e) (rkOf e))

/-- and their scores. -/
theorem ker_value (y : (⟨2, ![20480, 80]⟩ : Shape).Idx → EReal)
    (h : ∀ c l, V (Proc.devRef .tc main_v2) (ix2 c l) = y (ix2 l c)) (i : Fin 1000) :
    after hostOps1 V (Proc.devRef .tc main_v14) (ix1 i) = flat y (place (flat y) i) := by
  rw [← entry_best y (V (Proc.devRef .tc main_v2)) h i]
  after_reads_simp
  pointwise
  refine (congrArg Neg.neg (merged_key (flat y) (V (Proc.devRef .tc main_v2)) _ _ (fun e => ?_) (fun e => ?_) i _)).trans (neg_neg _)
  · pointwise
    rw [← flat_entry y _ h]
    exact congrArg Neg.neg (class_value _ (clsOf e) (rkOf e))
  · refine Eq.trans ?_ (entry_word _ e)
    exact congrArg (fun w => IntOp.addi (IntOp.muli w 80#32) _) (class_index _ (clsOf e) (rkOf e))

end
end Cert.Proof.Select
-- ==== Proof.Table.lean ====
module

public import proofs.«01_k».proof.Proof.Select
public import Idealize.ShloMosaic.Lib.Routing.Words
public import Idealize.ShloMosaic.Lib.Routing.OpsSet

/-! The table of candidates that both programs build: one decoded box, score and label for each selected place. -/

@[expose] public section

set_option maxRecDepth 16384

noncomputable section

namespace Cert.Proof.Table

open Idealize.ShloMosaic Idealize.ShloMosaic.TcCoe Idealize.ShloMosaic.Tactic Idealize.ShloMosaic.StableHlo
open Cert.Proof.Select

/-- One candidate: its clipped box, its score and its label. -/
structure Cand where
  x1 : EReal
  y1 : EReal
  x2 : EReal
  y2 : EReal
  s : EReal
  l : BitVec 32

/-- What a candidate's box is moved by, so that boxes of different labels do not meet. -/
def Cand.off (d : Cand) : EReal := FloatOps.sitofp (F := Ideal) .f32 d.l * Ideal.ofBits .f32 0x44A02000#32
/-- The area of the moved box. -/
def Cand.area (d : Cand) : EReal :=
  (d.x2 + d.off - (d.x1 + d.off) + 1) * (d.y2 + d.off - (d.y1 + d.off) + 1)
/-- Whether the candidate takes part: a positive score and a box of nonnegative extent. -/
def Cand.ok (d : Cand) : Prop := (0 < d.s ∧ 0 ≤ d.x2 - d.x1 + 1) ∧ 0 ≤ d.y2 - d.y1 + 1
/-- The score reported for the candidate. -/
def Cand.out (d : Cand) : EReal := Ideal.sqrt (max d.s (Ideal.ofBits .f32 0x2B8CBCCC#32))
/-- The overlap of two moved boxes. -/
def Cand.meet (d e : Cand) : EReal :=
  Run.overlap (d.x1 + d.off) (d.y1 + d.off) (d.x2 + d.off) (d.y2 + d.off) d.area
    (e.x1 + e.off) (e.y1 + e.off) (e.x2 + e.off) (e.y2 + e.off) e.area

/-- A decoded edge, below and above the box's middle, and an edge clipped to the image. -/
def mid (r w a : EReal) : EReal := Ideal.div r (Ideal.ofBits .f32 0x41200000#32) * w + a
def ext (r w : EReal) : EReal := Ideal.exp (min (Ideal.div r (Ideal.ofBits .f32 0x40A00000#32)) (Ideal.ofBits .f32 0x40845349#32)) * w
def low (r r' w a : EReal) : EReal := mid r w a - Ideal.ofBits .f32 0x3F000000#32 * (ext r' w - 1)
def high (r r' w a : EReal) : EReal := mid r w a + Ideal.ofBits .f32 0x3F000000#32 * (ext r' w - 1)
def clip (b x : EReal) : EReal := min b (max 0 x)

/-- An argument laid out over the feature map, read at a location. -/
def atLoc {k : ℕ} (x : (⟨4, ![1, k, 128, 160]⟩ : Shape).Idx → EReal) (a : Fin k) (l : Fin 20480) : EReal :=
  x (ix4 0 a ⟨l.val / 160, by omega⟩ ⟨l.val % 160, Nat.mod_lt _ (by decide)⟩)

/-- The score of a class at a location: zero under the threshold. -/
def score (x3 : (⟨4, ![1, 80, 128, 160]⟩ : Shape).Idx → EReal) (x1 : (⟨4, ![1, 1, 128, 160]⟩ : Shape).Idx → EReal) :
    (⟨2, ![20480, 80]⟩ : Shape).Idx → EReal := fun j =>
  if Ideal.ofBits .f32 0x3D4CCCCD#32 < Ideal.logistic (atLoc x3 (j 1) (j 0)) then
    Ideal.logistic (atLoc x3 (j 1) (j 0)) * Ideal.logistic (atLoc x1 0 (j 0)) else 0

/-- The location and the class of a place. -/
def locOf (p : Fin 1638400) : Fin 20480 := ⟨p.val / 80, by omega⟩

/-- The candidate at a place, from the widths and the centres of the anchors. -/
def candAt (x0 : (⟨4, ![1, 4, 128, 160]⟩ : Shape).Idx → EReal) (f : Fin 1638400 → EReal) (wx cx wy cy : Fin 20480 → EReal)
    (p : Fin 1638400) : Cand where
  x1 := clip (Ideal.ofBits .f32 0x449FE000#32) (low (atLoc x0 0 (locOf p)) (atLoc x0 2 (locOf p)) (wx (locOf p)) (cx (locOf p)))
  y1 := clip (Ideal.ofBits .f32 0x447FC000#32) (low (atLoc x0 1 (locOf p)) (atLoc x0 3 (locOf p)) (wy (locOf p)) (cy (locOf p)))
  x2 := clip (Ideal.ofBits .f32 0x449FE000#32) (high (atLoc x0 0 (locOf p)) (atLoc x0 2 (locOf p)) (wx (locOf p)) (cx (locOf p)))
  y2 := clip (Ideal.ofBits .f32 0x447FC000#32) (high (atLoc x0 1 (locOf p)) (atLoc x0 3 (locOf p)) (wy (locOf p)) (cy (locOf p)))
  s := f p
  l := BitVec.ofNat 32 (p.val % 80) + 1#32

/-- Two truth words and together to the true word exactly when both are. -/
theorem and_eq_one (a b : BitVec 1) : IntOp.andi a b = 1#1 ↔ a = 1#1 ∧ b = 1#1 := by
  revert a b; decide

/-- A word below 2^31 is not negative, so an index that would wrap from the end does not. -/
theorem wrap (a : ℕ) (n : BitVec 32) (h : a < 2 ^ 31) :
    Scalar.select (IntOp.cmpi .slt (BitVec.ofNat 32 a) 0#32) (BitVec.ofNat 32 a + n) (BitVec.ofNat 32 a) = BitVec.ofNat 32 a := by
  have e : IntOp.cmpi .slt (BitVec.ofNat 32 a) 0#32 = 0#1 := by
    rw [show IntOp.cmpi .slt (BitVec.ofNat 32 a) 0#32 = BitVec.ofBool ((BitVec.ofNat 32 a).slt 0#32) from rfl, BitVec.slt,
      StableHlo.Predicate.toInt_ofNat_small _ h, decide_eq_false (by change ¬ ((a : ℤ) < 0); omega)]
    rfl
  rw [e]; rfl

/-- The columns of the regression table taken at the locations a list of words names. -/
theorem gather_cols {α : Type} (x : Cert.KernelIdeal.S4x20480.Idx → α) (idx : IVec Cert.KernelIdeal.S1000x1 32) (a : Fin 4) (p : Fin 1000)
    (b : Fin 20480) (hb : idx (ix2 p 0) = BitVec.ofNat 32 b.val) :
    Host.gather Cert.KernelIdeal.gather_S4x20480_S1000x1_S4x1000_0_1_n_n_1_1_41 x idx (ix2 a p) = x (ix2 a b) := by
  have hN : b.val < 2 ^ 31 := by have := b.isLt; omega
  generalize hd : Cert.KernelIdeal.gather_S4x20480_S1000x1_S4x1000_0_1_n_n_1_1_41 = d
  unfold Host.gather
  refine congrArg x (funext fun c => Fin.ext ?_)
  have hn : ∀ c, c ∉ d.operandBatchingDims := fun c => by subst hd; exact List.not_mem_nil
  match c with
  | ⟨0, _⟩ =>
    show d.start (ix2 a p) idx 0 + d.batchCoord (ix2 a p) 0 + d.offCoord (ix2 a p) 0 = a.val
    rw [d.batchCoord_eq_zero _ _ (hn 0)]
    unfold GatherDims.start
    rw [dif_neg (by subst hd; decide), Nat.zero_add]
    subst hd
    rfl
  | ⟨1, _⟩ =>
    show d.start (ix2 a p) idx 1 + d.batchCoord (ix2 a p) 1 + d.offCoord (ix2 a p) 1 = b.val
    have hm : (1 : Fin 2) ∈ d.startIndexMap := by subst hd; decide
    rw [d.batchCoord_eq_zero _ _ (hn 1), d.offCoord_eq_zero _ _ (by subst hd; decide), Nat.add_zero]
    unfold GatherDims.start
    rw [dif_pos hm]
    have hs : d.siIdx (ix2 a p) ⟨d.startIndexMap.idxOf 1, List.idxOf_lt_length_iff.2 hm⟩ = ix2 p 0 := by
      subst hd
      funext e
      match e with
      | ⟨0, _⟩ => rfl
      | ⟨1, _⟩ => rfl
    rw [hs, hb, show d.sliceSizes 1 = 1 from by subst hd; rfl, StableHlo.Predicate.toInt_ofNat_small _ hN]
    have := b.isLt
    show min b.val (20480 - 1) = b.val
    omega

end Cert.Proof.Table
-- ==== Proof.RefRead.lean ====
module

public import proofs.«01_k».proof.Proof.Table

/-! What the reference holds when its loop starts: the scores, the selected candidates, their table and overlaps. -/

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.Tactic Idealize.ShloMosaic.StableHlo Idealize.SL.Sem
open Cert.Proof.Select Cert.Proof.Table

/-- A flipped truth word is true exactly when the word is not. -/
theorem not_eq_one (a : BitVec 1) : ~~~ a = 1#1 ↔ ¬ a = 1#1 := by
  revert a; decide

section Stages
variable (V : Valuation τ sig (Elt Ideal))

/-- The masked scores of all classes at all locations. -/
theorem score_read : after hostOps0_1 (after hostOps0 V) (Proc.devRef .tc main_v26)
    = score (V (Proc.devRef .tc main_arg3)) (V (Proc.devRef .tc main_arg1)) := by
  funext j
  after_reads_simp
  simp only [TRef.ofBuf, TRef.toBuf, cast_eq, id]
  idx_vars j
  pointwise
  rfl

/-- The regression channels by location. -/
theorem reg_read (l : Fin 20480) (k : Fin 4) :
    after hostOps0 V (Proc.devRef .tc main_v11) (ix2 l k) = atLoc (V (Proc.devRef .tc main_arg0)) k l := by
  after_reads_simp
  pointwise
  rfl

/-- The values that the selection returns. -/
theorem value_read (i : Fin 1000) : after hostOps0_2 V (Proc.devRef .tc main_values) (ix1 i)
    = flat (V (Proc.devRef .tc main_v26)) (place (flat (V (Proc.devRef .tc main_v26))) i) := by
  after_reads_simp
  exact ref_value _ i

/-- The places that the selection returns. -/
theorem index_read (i : Fin 1000) : after hostOps0_2 V (Proc.devRef .tc main_indices) (ix1 i)
    = BitVec.ofNat 32 (place (flat (V (Proc.devRef .tc main_v26))) i).val := by
  after_reads_simp
  exact ref_index _ i

/-- The number of classes. -/
theorem c_read : after hostOps0_2 V (Proc.devRef .tc main_c) ix0 = 80#32 := by
  after_reads_simp
  rfl

/-- The candidates' locations, and their classes. -/
theorem loc_read (i : Fin 1000) (p : ℕ) (hp : p < 2 ^ 31) (h : V (Proc.devRef .tc main_indices) (ix1 i) = BitVec.ofNat 32 p)
    (hc : V (Proc.devRef .tc main_c) ix0 = 80#32) : after hostOps0_3 V (Proc.devRef .tc main_v28) (ix1 i) = BitVec.ofNat 32 (p / 80) := by
  after_reads_simp
  simp only [TRef.ofBuf, TRef.toBuf, cast_eq, id]
  exact Routing.pyDiv_ap (s := S1000) bcast_S_S1000 (V (Proc.devRef .tc main_indices)) (V (Proc.devRef .tc main_c)) (ix1 i) h hc hp (by decide) (by decide)

/-- The class of a place. -/
theorem cls_read (i : Fin 1000) (p : ℕ) (hp : p < 2 ^ 31) (h : V (Proc.devRef .tc main_indices) (ix1 i) = BitVec.ofNat 32 p) :
    after hostOps0_5 (after hostOps0_4 V) (Proc.devRef .tc main_v29) (ix1 i) = BitVec.ofNat 32 (p % 80) := by
  after_reads_simp
  simp only [TRef.ofBuf, TRef.toBuf, cast_eq, id]
  exact Routing.pyRem_ap (s := S1000) bcast_S_S1000 (V (Proc.devRef .tc main_indices)) (constantI S_ 32 80#32) (ix1 i) h rfl hp (by decide) (by decide)

/-- The candidates' labels. -/
theorem label_read (i : Fin 1000) : after hostOps0_6 V (Proc.devRef .tc main_v31) (ix1 i) = IntOp.addi (V (Proc.devRef .tc main_v29) (ix1 i)) 1#32 := by
  after_reads_simp
  rfl

/-- The stretches that decode and clip the boxes. -/
abbrev decoded : Valuation τ sig (Elt Ideal) := after hostOps0_13 (after hostOps0_12 (after hostOps0_11 (after hostOps0_10 (after hostOps0_9
  (after hostOps0_8 (after hostOps0_7 (after hostOps0_6 V)))))))

/-- An anchor's extent and centre. -/
def ancW (A : S20480x4.Idx → EReal) (a b : Fin 4) (l : Fin 20480) : EReal := A (ix2 l b) - A (ix2 l a) + 1
def ancC (A : S20480x4.Idx → EReal) (a b : Fin 4) (l : Fin 20480) : EReal := A (ix2 l a) + Ideal.ofBits .f32 0x3F000000#32 * ancW A a b l

/-- The rows taken at the candidates' locations. -/
theorem take_row (x : S20480x4.Idx → EReal) (w : IVec S1000 32) (i : Fin 1000) (k : Fin 4) (l : Fin 20480) (h : w (ix1 i) = BitVec.ofNat 32 l.val) :
    Host.gather gather_S20480x4_S1000x1_S1000x4_1_0_n_n_0_1_14 x (broadcastInDim S1000x1 ![0] bcast_S1000_S1000x1_0
        (select (cmpi CmpIPredicate.slt w (broadcastInDim S1000 ![] bcast_S_S1000 (constantI S_ 32 0#32)))
          (addi w (broadcastInDim S1000 ![] bcast_S_S1000 (constantI S_ 32 20480#32))) w)) (ix2 i k) = x (ix2 l k) := by
  refine Routing.gather_row gather_S20480x4_S1000x1_S1000x4_1_0_n_n_0_1_14 rfl rfl rfl rfl rfl x _ i k l ?_ (by decide)
  pointwise
  rw [h]
  exact wrap _ _ (by have := l.isLt; omega)

/-- The edges of a candidate's box. -/
theorem box_read (i : Fin 1000) (l : Fin 20480) (h : V (Proc.devRef .tc main_v28) (ix1 i) = BitVec.ofNat 32 l.val)
    (R : Fin 4 → EReal)
    (hR : ∀ k, V (Proc.devRef .tc main_v11) (ix2 l k) = R k) (A : S20480x4.Idx → EReal) (hA : V (Proc.devRef .tc main_arg2) = A) :
    decoded V (Proc.devRef .tc main_v125) (ix1 i)
      = clip (Ideal.ofBits .f32 0x449FE000#32) (low (R 0) (R 2) (ancW A 0 2 l) (ancC A 0 2 l)) ∧
    decoded V (Proc.devRef .tc main_v128) (ix1 i)
      = clip (Ideal.ofBits .f32 0x447FC000#32) (low (R 1) (R 3) (ancW A 1 3 l) (ancC A 1 3 l)) ∧
    decoded V (Proc.devRef .tc main_v131) (ix1 i)
      = clip (Ideal.ofBits .f32 0x449FE000#32) (high (R 0) (R 2) (ancW A 0 2 l) (ancC A 0 2 l)) ∧
    decoded V (Proc.devRef .tc main_v134) (ix1 i)
      = clip (Ideal.ofBits .f32 0x447FC000#32) (high (R 1) (R 3) (ancW A 1 3 l) (ancC A 1 3 l)) := by
  have hg := fun k => (take_row (V (Proc.devRef .tc main_v11)) _ i k l h).trans (hR k)
  have hg' := fun k => take_row (V (Proc.devRef .tc main_arg2)) _ i k l h
  rw [hA] at hg'
  unfold decoded
  refine ⟨?_, ?_, ?_, ?_⟩
  all_goals
    after_reads_simp
    simp only [TRef.ofBuf, TRef.toBuf, cast_eq, id]
    pointwise
    after_reads_simp
    rw [hA]
    revert hg hg'
    generalize (Host.gather gather_S20480x4_S1000x1_S1000x4_1_0_n_n_0_1_14 (V (Proc.devRef .tc main_v11)) _) = G
    generalize (Host.gather gather_S20480x4_S1000x1_S1000x4_1_0_n_n_0_1_14 A _) = G'
    intro hg hg'
    pointwise
    simp only [hg, hg']
    rfl

/-- The candidate that the buffers hold at a position. -/
def candOf (i : Fin 1000) : Cand where
  x1 := V (Proc.devRef .tc main_v125) (ix1 i)
  y1 := V (Proc.devRef .tc main_v128) (ix1 i)
  x2 := V (Proc.devRef .tc main_v131) (ix1 i)
  y2 := V (Proc.devRef .tc main_v134) (ix1 i)
  s := V (Proc.devRef .tc main_values) (ix1 i)
  l := V (Proc.devRef .tc main_v31) (ix1 i)

/-- The overlaps of all pairs of candidates. -/
theorem iou_read (i j : Fin 1000) : after hostOps0_14 V (Proc.devRef .tc main_v212_0) (ix2 i j) = (candOf V i).meet (candOf V j) := by
  after_reads_simp
  simp only [id]
  pointwise
  after_reads_simp
  pointwise
  rfl

/-- The list of positions. -/
theorem iota_read (i : Fin 1000) : after hostOps0_14 V (Proc.devRef .tc main_v212_1) (ix1 i) = BitVec.ofNat 32 i.val := by
  after_reads_simp
  simp only [id]
  pointwise

/-- The loop's counter starts at zero. -/
theorem ctr_read : after hostOps0_14 V (Proc.devRef .tc main_v212_2) ix0 = 0#32 := by
  after_reads_simp
  rfl

/-- The flags that the loop starts from: the candidates that take part. -/
theorem ok_read (i : Fin 1000) : after hostOps0_14 V (Proc.devRef .tc main_v212_4) (ix1 i) = 1#1 ↔ (candOf V i).ok := by
  after_reads_simp
  simp only [id]
  pointwise
  rw [and_eq_one, and_eq_one, Run.ofBool_eq_one, Run.ofBool_eq_one, Run.ofBool_eq_one]
  rfl

/-- The reported scores. -/
theorem out_read (i : Fin 1000) : after hostOps0_14 V (Proc.devRef .tc main_v156) (ix1 i) = (candOf V i).out := by
  after_reads_simp
  pointwise
  rfl

/-- The table of clipped boxes. -/
theorem edge_read (i : Fin 1000) :
    after hostOps0_14 V (Proc.devRef .tc main_v139) (ix2 i 0) = (candOf V i).x1 ∧
    after hostOps0_14 V (Proc.devRef .tc main_v139) (ix2 i 1) = (candOf V i).y1 ∧
    after hostOps0_14 V (Proc.devRef .tc main_v139) (ix2 i 2) = (candOf V i).x2 ∧
    after hostOps0_14 V (Proc.devRef .tc main_v139) (ix2 i 3) = (candOf V i).y2 := by
  refine ⟨?_, ?_, ?_, ?_⟩
  all_goals
    after_reads_simp
    pointwise
    after_reads_simp
    pointwise
    rfl

end Stages
end Cert.Proof.Ref
-- ==== Proof.KerRead.lean ====
module

public import proofs.«01_k».proof.Proof.Table

/-! What the kernel's stretches compute from the selected places: the classes, the cells, the boxes, and the table's columns. -/

@[expose] public section

set_option maxRecDepth 16384

noncomputable section

namespace Cert.Proof.Ker

open Cert.KernelIdeal Cert.KernelIdeal.Gen
open Idealize.ShloMosaic Idealize.ShloMosaic.TcCoe Idealize.ShloMosaic.Tactic Idealize.ShloMosaic.StableHlo Idealize.SL.Sem
open Cert.Proof.Select Cert.Proof.Table

variable (V : Valuation τ sig (Elt Ideal))

/-- The divisor the locations are found with. -/
theorem c0_read : after hostOps1 V (Proc.devRef .tc main_c_0) ix0 = 80#32 := by
  after_reads_simp
  rfl

/-- Location, class, column and row of a place. -/
theorem loc_read (i : Fin 1000) (p : ℕ) (hp : p < 2 ^ 31) (h : V (Proc.devRef .tc main_v15) (ix1 i) = BitVec.ofNat 32 p)
    (hc : V (Proc.devRef .tc main_c_0) ix0 = 80#32) : after hostOps1_1 V (Proc.devRef .tc main_v16) (ix1 i) = BitVec.ofNat 32 (p / 80) := by
  after_reads_simp
  simp only [TRef.ofBuf, TRef.toBuf, cast_eq, id]
  exact Routing.pyDiv_ap (s := S1000) bcast_S_S1000 (V (Proc.devRef .tc main_v15)) (V (Proc.devRef .tc main_c_0)) (ix1 i) h hc hp (by decide) (by decide)

/-- The class of a place. -/
theorem cls_read (i : Fin 1000) (p : ℕ) (hp : p < 2 ^ 31) (h : V (Proc.devRef .tc main_v15) (ix1 i) = BitVec.ofNat 32 p) :
    after hostOps1_3 (after hostOps1_2 V) (Proc.devRef .tc main_v17) (ix1 i) = BitVec.ofNat 32 (p % 80) := by
  after_reads_simp
  simp only [TRef.ofBuf, TRef.toBuf, cast_eq, id]
  exact Routing.pyRem_ap (s := S1000) bcast_S_S1000 (V (Proc.devRef .tc main_v15)) (constantI S_ 32 80#32) (ix1 i) h rfl hp (by decide) (by decide)

/-- The column of a location. -/
theorem col_read (i : Fin 1000) (p : ℕ) (hp : p < 2 ^ 31) (h : V (Proc.devRef .tc main_v16) (ix1 i) = BitVec.ofNat 32 p) :
    after hostOps1_5 (after hostOps1_4 V) (Proc.devRef .tc main_v29) (ix1 i) = BitVec.ofNat 32 (p % 160) := by
  after_reads_simp
  simp only [TRef.ofBuf, TRef.toBuf, cast_eq, id]
  exact Routing.pyRem_ap (s := S1000) bcast_S_S1000 (V (Proc.devRef .tc main_v16)) (constantI S_ 32 160#32) (ix1 i) h rfl hp (by decide) (by decide)

/-- The row of a location. -/
theorem row_read (i : Fin 1000) (p : ℕ) (hp : p < 2 ^ 31) (h : V (Proc.devRef .tc main_v16) (ix1 i) = BitVec.ofNat 32 p) :
    after hostOps1_7 (after hostOps1_6 V) (Proc.devRef .tc main_v31) (ix1 i) = BitVec.ofNat 32 (p / 160) := by
  after_reads_simp
  simp only [TRef.ofBuf, TRef.toBuf, cast_eq, id]
  exact Routing.pyDiv_ap (s := S1000) bcast_S_S1000 (V (Proc.devRef .tc main_v16)) (constantI S_ 32 160#32) (ix1 i) h rfl hp (by decide) (by decide)

/-- The column as a float. -/
theorem float_read (i : Fin 1000) : after hostOps1_6 V (Proc.devRef .tc main_v30) (ix1 i)
    = FloatOps.sitofp (F := Ideal) .f32 (V (Proc.devRef .tc main_v29) (ix1 i)) := by
  after_reads_simp
  rfl

/-- The candidates' labels. -/
theorem label_read (i : Fin 1000) : after hostOps1_4 V (Proc.devRef .tc main_v19) (ix1 i) = IntOp.addi (V (Proc.devRef .tc main_v17) (ix1 i)) 1#32 := by
  after_reads_simp
  rfl

/-- The regression channels taken at the candidates' locations. -/
theorem take_read (i : Fin 1000) (l : Fin 20480) (k : Fin 4) (h : V (Proc.devRef .tc main_v16) (ix1 i) = BitVec.ofNat 32 l.val) :
    after hostOps1_4 V (Proc.devRef .tc main_v28) (ix2 i k) = atLoc (V (Proc.devRef .tc main_arg0)) k l := by
  after_reads_simp
  pointwise
  refine (gather_cols _ _ k i l ?_).trans ?_
  · pointwise
    rw [h]
    exact wrap _ _ (by have := l.isLt; omega)
  · pointwise
    rfl

/-- The stretches that decode and clip the boxes. -/
abbrev decoded : Valuation τ sig (Elt Ideal) := after hostOps1_15 (after hostOps1_14 (after hostOps1_13 (after hostOps1_12 (after hostOps1_11
  (after hostOps1_10 (after hostOps1_9 (after hostOps1_8 V)))))))

/-- The extent of every anchor, and the centre of a cell's. -/
def size : EReal := Ideal.ofBits .f32 0x42820000#32
/-- The centre of the anchor in the cell of a number, along one axis. -/
def centre (n : ℕ) : EReal := FloatOps.sitofp (F := Ideal) .f32 (BitVec.ofNat 32 n) * Ideal.ofBits .f32 0x41000000#32
  + Ideal.ofBits .f32 0xC1E00000#32 + Ideal.ofBits .f32 0x3F000000#32 * size

/-- The edges of a candidate's box. -/
theorem box_read (i : Fin 1000) (R : Fin 4 → EReal) (hR : ∀ k, V (Proc.devRef .tc main_v28) (ix2 i k) = R k) (a b : ℕ)
    (ha : V (Proc.devRef .tc main_v30) (ix1 i) = FloatOps.sitofp (F := Ideal) .f32 (BitVec.ofNat 32 a))
    (hb : V (Proc.devRef .tc main_v31) (ix1 i) = BitVec.ofNat 32 b) :
    decoded V (Proc.devRef .tc main_v84) (ix1 i) = clip (Ideal.ofBits .f32 0x449FE000#32) (low (R 0) (R 2) size (centre a)) ∧
    decoded V (Proc.devRef .tc main_v90) (ix1 i) = clip (Ideal.ofBits .f32 0x447FC000#32) (low (R 1) (R 3) size (centre b)) ∧
    decoded V (Proc.devRef .tc main_v96) (ix1 i) = clip (Ideal.ofBits .f32 0x449FE000#32) (high (R 0) (R 2) size (centre a)) ∧
    decoded V (Proc.devRef .tc main_v102) (ix1 i) = clip (Ideal.ofBits .f32 0x447FC000#32) (high (R 1) (R 3) size (centre b)) := by
  unfold decoded
  refine ⟨?_, ?_, ?_, ?_⟩
  all_goals
    after_reads_simp
    simp only [TRef.ofBuf, TRef.toBuf, cast_eq, id]
    pointwise
    simp only [hR, ha, hb]
    rfl

/-- The candidate that the buffers hold at a position. -/
def candOf (i : Fin 1000) : Cand where
  x1 := V (Proc.devRef .tc main_v84) (ix1 i)
  y1 := V (Proc.devRef .tc main_v90) (ix1 i)
  x2 := V (Proc.devRef .tc main_v96) (ix1 i)
  y2 := V (Proc.devRef .tc main_v102) (ix1 i)
  s := V (Proc.devRef .tc main_v14) (ix1 i)
  l := V (Proc.devRef .tc main_v19) (ix1 i)

/-- What the next stretch adds to the table: the moved boxes and their areas, the reported scores, and who takes part. -/
theorem moved_read (i : Fin 1000) :
    after hostOps1_16 V (Proc.devRef .tc main_v123) (ix1 i) = (candOf V i).x1 + (candOf V i).off ∧
    after hostOps1_16 V (Proc.devRef .tc main_v124) (ix1 i) = (candOf V i).y1 + (candOf V i).off ∧
    after hostOps1_16 V (Proc.devRef .tc main_v125) (ix1 i) = (candOf V i).x2 + (candOf V i).off ∧
    after hostOps1_16 V (Proc.devRef .tc main_v126) (ix1 i) = (candOf V i).y2 + (candOf V i).off ∧
    after hostOps1_16 V (Proc.devRef .tc main_v133) (ix1 i) = (candOf V i).area ∧
    after hostOps1_16 V (Proc.devRef .tc main_v119) (ix1 i) = (candOf V i).out := by
  refine ⟨?_, ?_, ?_, ?_, ?_, ?_⟩
  all_goals
    after_reads_simp
    pointwise
    rfl

/-- The flag of a candidate that takes part. -/
theorem ok_read (i : Fin 1000) : after hostOps1_16 V (Proc.devRef .tc main_v116) (ix1 i) = 1#1 ↔ (candOf V i).ok := by
  after_reads_simp
  pointwise
  rw [and_eq_one, and_eq_one, Run.ofBool_eq_one, Run.ofBool_eq_one, Run.ofBool_eq_one]
  rfl

end Cert.Proof.Ker
-- ==== Proof.Anchors.lean ====
module

public import proofs.«01_k».proof.Pre_anchors_on_grid
public import proofs.«01_k».proof.Proof.RefRead
public import proofs.«01_k».proof.Proof.KerRead
public import Idealize.ShloMosaic.Lib.Routing.Words

/-! The precondition, read: the anchors' extents and centres are those the kernel computes with. -/

@[expose] public section

set_option maxRecDepth 16384

noncomputable section

namespace Cert.Proof.Anchors

open Cert.Pre_anchors_on_grid
open Idealize.ShloMosaic Idealize.ShloMosaic.TcCoe Idealize.ShloMosaic.Tactic Idealize.ShloMosaic.StableHlo
open Cert.Proof.Table

/-- The side conditions of the precondition's function hold. -/
instance facts : Cert.Pre_anchors_on_grid.Facts where
  bcast_S_S20480 := by decide
  bcast_S20480_S20480x1_0 := by decide
  concatenates_S20480x1_S20480x1_S20480x1_S20480x1_S20480x4_d1 := by decide

/-- The middle of a grid cell, along one axis. -/
def grid (n : ℕ) : EReal := FloatOps.sitofp (F := Ideal) .f32 (BitVec.ofNat 32 n) * Ideal.ofBits .f32 0x41000000#32 + Ideal.ofBits .f32 0x40800000#32

/-- A cell's column in the precondition. -/
theorem rem_read [Facts] (l : Fin 20480) :
    fn_remainder (F := Ideal) (iotaInDim S20480 32 0) (constantI S_ 32 160#32) (ix1 l) = BitVec.ofNat 32 (l.val % 160) := by
  have hl := l.isLt
  exact Routing.pyRem_ap (s := S20480) Facts.bcast_S_S20480 (iotaInDim S20480 32 0) (constantI S_ 32 160#32) (ix1 l) (a := l.val) rfl rfl (by omega) (by decide) (by decide)

/-- A cell's row in the precondition. -/
theorem div_read [Facts] (l : Fin 20480) :
    fn_floor_divide (F := Ideal) (iotaInDim S20480 32 0) (constantI S_ 32 160#32) (ix1 l) = BitVec.ofNat 32 (l.val / 160) := by
  have hl := l.isLt
  exact Routing.pyDiv_ap (s := S20480) Facts.bcast_S_S20480 (iotaInDim S20480 32 0) (constantI S_ 32 160#32) (ix1 l) (a := l.val) rfl rfl (by omega) (by decide) (by decide)

/-- The corners that the precondition states. -/
theorem corners [Facts] (a0 : FVec Ideal S1x4x128x160 .f32) (a1 : FVec Ideal S1x1x128x160 .f32) (A : FVec Ideal S20480x4 .f32)
    (a3 : FVec Ideal S1x80x128x160 .f32) (h : fn (F := Ideal) a0 a1 A a3 = fun _ => 1#1) (l : Fin 20480) :
    A (ix2 l 0) = grid (l.val % 160) - Ideal.ofBits .f32 0x42000000#32 ∧
    A (ix2 l 1) = grid (l.val / 160) - Ideal.ofBits .f32 0x42000000#32 ∧
    A (ix2 l 2) = grid (l.val % 160) + Ideal.ofBits .f32 0x42000000#32 ∧
    A (ix2 l 3) = grid (l.val / 160) + Ideal.ofBits .f32 0x42000000#32 := by
  have h' := fun k => congrFun h (ix2 l k)
  unfold fn fn_part1 at h'
  have hr := rem_read l
  have hd := div_read l
  generalize fn_remainder (F := Ideal) (iotaInDim S20480 32 0) (constantI S_ 32 160#32) = R at *
  generalize fn_floor_divide (F := Ideal) (iotaInDim S20480 32 0) (constantI S_ 32 160#32) = D at *
  have h0 := h' 0
  have h1 := h' 1
  have h2 := h' 2
  have h3 := h' 3
  clear h'
  pointwise at h0
  pointwise at h1
  pointwise at h2
  pointwise at h3
  rw [Run.ofBool_eq_one] at h0 h1 h2 h3
  rw [hr] at h0 h2
  rw [hd] at h1 h3
  exact ⟨h0, h1, h2, h3⟩

/-- The literals, as reals. -/
theorem literals : (Ideal.ofBits .f32 0x41000000#32 = ((8 : ℝ) : EReal) ∧ Ideal.ofBits .f32 0x40800000#32 = ((4 : ℝ) : EReal) ∧
    Ideal.ofBits .f32 0x42000000#32 = ((32 : ℝ) : EReal)) ∧ Ideal.ofBits .f32 0xC1E00000#32 = ((-28 : ℝ) : EReal) ∧
    Ideal.ofBits .f32 0x42820000#32 = ((65 : ℝ) : EReal) := by
  refine ⟨⟨?_, ?_, ?_⟩, ?_, ?_⟩
  all_goals
    simp only [Ideal.ofBits, Ideal.ieee]
    simp
    rw [← EReal.coe_mul]
    norm_num

/-- A cell's two edges are the size apart, and its centre is the one that the kernel computes. -/
theorem edges (n : ℕ) :
    grid n + Ideal.ofBits .f32 0x42000000#32 - (grid n - Ideal.ofBits .f32 0x42000000#32) + 1 = Ker.size ∧
    grid n - Ideal.ofBits .f32 0x42000000#32 + Ideal.ofBits .f32 0x3F000000#32 * Ker.size = Ker.centre n := by
  obtain ⟨⟨e8, e4, e32⟩, e28, e65⟩ := literals
  obtain ⟨r, hr⟩ : ∃ r : ℝ, FloatOps.sitofp (F := Ideal) .f32 (BitVec.ofNat 32 n) = (r : EReal) := ⟨_, rfl⟩
  unfold Ker.centre grid Ker.size
  rw [hr, e8, e4, e32, e28, e65]
  constructor
  · rw [show (1 : EReal) = ((1 : ℝ) : EReal) from rfl]
    rw [← EReal.coe_mul, ← EReal.coe_add, ← EReal.coe_add, ← EReal.coe_sub, ← EReal.coe_sub, ← EReal.coe_add]
    congr 1
    ring
  · congr 1
    rw [← EReal.coe_mul, ← EReal.coe_add, ← EReal.coe_sub, ← EReal.coe_add]
    congr 1
    ring

/-- Under the precondition the reference's anchors have the kernel's extents and centres. -/
theorem same_anchors [Facts] (a0 : FVec Ideal S1x4x128x160 .f32) (a1 : FVec Ideal S1x1x128x160 .f32) (A : FVec Ideal S20480x4 .f32)
    (a3 : FVec Ideal S1x80x128x160 .f32) (h : fn (F := Ideal) a0 a1 A a3 = fun _ => 1#1) :
    (Ref.ancW A 0 2 = (fun _ => Ker.size) ∧ Ref.ancC A 0 2 = fun l => Ker.centre (l.val % 160)) ∧
    Ref.ancW A 1 3 = (fun _ => Ker.size) ∧ Ref.ancC A 1 3 = fun l => Ker.centre (l.val / 160) := by
  have hw : Ref.ancW A 0 2 = fun _ => Ker.size := by
    funext l
    obtain ⟨h0, h1, h2, h3⟩ := corners a0 a1 A a3 h l
    unfold Ref.ancW
    rw [h0, h2]
    exact (edges _).1
  have hw' : Ref.ancW A 1 3 = fun _ => Ker.size := by
    funext l
    obtain ⟨h0, h1, h2, h3⟩ := corners a0 a1 A a3 h l
    unfold Ref.ancW
    rw [h1, h3]
    exact (edges _).1
  refine ⟨⟨hw, ?_⟩, hw', ?_⟩
  · funext l
    obtain ⟨h0, h1, h2, h3⟩ := corners a0 a1 A a3 h l
    unfold Ref.ancC
    rw [hw, h0]
    exact (edges _).2
  · funext l
    obtain ⟨h0, h1, h2, h3⟩ := corners a0 a1 A a3 h l
    unfold Ref.ancC
    rw [hw', h1]
    exact (edges _).2

end Cert.Proof.Anchors

end
-- ==== Proof.KerTable.lean ====
module

public import proofs.«01_k».proof.Proof.KerRead

/-! The padded table and planes that the kernel's second call reads, in terms of the candidates. -/

@[expose] public section

set_option maxRecDepth 16384

noncomputable section

namespace Cert.Proof.Ker

open Cert.KernelIdeal Cert.KernelIdeal.Gen
open Idealize.ShloMosaic Idealize.ShloMosaic.TcCoe Idealize.ShloMosaic.Tactic Idealize.ShloMosaic.StableHlo Idealize.SL.Sem
open Cert.Proof.Select Cert.Proof.Table

variable (V : Valuation τ sig (Elt Ideal))

/-- The stretches that pad the lists for the table, and those that lay lists out as planes. -/
abbrev padded : Valuation τ sig (Elt Ideal) := after hostOps1_37 (after hostOps1_36 (after hostOps1_35 (after hostOps1_34 (after hostOps1_33
  (after hostOps1_32 (after hostOps1_31 (after hostOps1_30 (after hostOps1_29 (after hostOps1_28 (after hostOps1_27 (after hostOps1_26
  (after hostOps1_25 (after hostOps1_24 (after hostOps1_23 (after hostOps1_22 (after hostOps1_21 (after hostOps1_20 (after hostOps1_19
  (after hostOps1_18 (after hostOps1_17 V))))))))))))))))))))
/-- The stretches that lay the lists out as planes. -/
abbrev planes : Valuation τ sig (Elt Ideal) := after hostOps1_50 (after hostOps1_49 (after hostOps1_48 (after hostOps1_47 (after hostOps1_46
  (after hostOps1_45 (after hostOps1_44 (after hostOps1_43 (after hostOps1_42 (after hostOps1_41 (after hostOps1_40 (after hostOps1_39 V)))))))))))

/-- A list of a thousand entries, with zeros after its end. -/
def ext0 (f : Fin 1000 → EReal) (p : ℕ) : EReal := if h : p < 1000 then f ⟨p, h⟩ else 0

/-- The columns of the table are the padded lists. -/
theorem column_read (p : Fin 1024) :
    (after hostOps1_38 V (Proc.devRef .tc main_v167) (ix2 p 0) = V (Proc.devRef .tc main_v134) (ix1 p) ∧
    after hostOps1_38 V (Proc.devRef .tc main_v167) (ix2 p 1) = V (Proc.devRef .tc main_v135) (ix1 p) ∧
    after hostOps1_38 V (Proc.devRef .tc main_v167) (ix2 p 2) = V (Proc.devRef .tc main_v136) (ix1 p) ∧
    after hostOps1_38 V (Proc.devRef .tc main_v167) (ix2 p 3) = V (Proc.devRef .tc main_v137) (ix1 p)) ∧
    (after hostOps1_38 V (Proc.devRef .tc main_v167) (ix2 p 4) = V (Proc.devRef .tc main_v138) (ix1 p) ∧
    after hostOps1_38 V (Proc.devRef .tc main_v167) (ix2 p 5) = V (Proc.devRef .tc main_v139) (ix1 p) ∧
    after hostOps1_38 V (Proc.devRef .tc main_v167) (ix2 p 6) = V (Proc.devRef .tc main_v140) (ix1 p) ∧
    after hostOps1_38 V (Proc.devRef .tc main_v167) (ix2 p 7) = V (Proc.devRef .tc main_v141) (ix1 p)) ∧
    after hostOps1_38 V (Proc.devRef .tc main_v167) (ix2 p 8) = V (Proc.devRef .tc main_v142) (ix1 p) ∧
    after hostOps1_38 V (Proc.devRef .tc main_v167) (ix2 p 9) = V (Proc.devRef .tc main_v143) (ix1 p) ∧
    after hostOps1_38 V (Proc.devRef .tc main_v167) (ix2 p 10) = V (Proc.devRef .tc main_v145) (ix1 p) := by
  refine ⟨⟨?_, ?_, ?_, ?_⟩, ⟨?_, ?_, ?_, ?_⟩, ?_, ?_, ?_⟩
  all_goals
    after_reads_simp
    pointwise
    after_reads_simp
    pointwise

/-- The padded lists, from the candidates and the lists before the padding. -/
theorem padded_read (p : Fin 1024) :
    (padded (after hostOps1_16 V) (Proc.devRef .tc main_v134) (ix1 p) = ext0 (fun i => (candOf V i).x1) p.val ∧
    padded (after hostOps1_16 V) (Proc.devRef .tc main_v135) (ix1 p) = ext0 (fun i => (candOf V i).y1) p.val ∧
    padded (after hostOps1_16 V) (Proc.devRef .tc main_v136) (ix1 p) = ext0 (fun i => (candOf V i).x2) p.val ∧
    padded (after hostOps1_16 V) (Proc.devRef .tc main_v137) (ix1 p) = ext0 (fun i => (candOf V i).y2) p.val) ∧
    (padded (after hostOps1_16 V) (Proc.devRef .tc main_v138) (ix1 p) = ext0 (fun i => (candOf V i).x1 + (candOf V i).off) p.val ∧
    padded (after hostOps1_16 V) (Proc.devRef .tc main_v139) (ix1 p) = ext0 (fun i => (candOf V i).y1 + (candOf V i).off) p.val ∧
    padded (after hostOps1_16 V) (Proc.devRef .tc main_v140) (ix1 p) = ext0 (fun i => (candOf V i).x2 + (candOf V i).off) p.val ∧
    padded (after hostOps1_16 V) (Proc.devRef .tc main_v141) (ix1 p) = ext0 (fun i => (candOf V i).y2 + (candOf V i).off) p.val) ∧
    padded (after hostOps1_16 V) (Proc.devRef .tc main_v142) (ix1 p) = ext0 (fun i => (candOf V i).area) p.val ∧
    padded (after hostOps1_16 V) (Proc.devRef .tc main_v143) (ix1 p) = ext0 (fun i => (candOf V i).out) p.val ∧
    padded (after hostOps1_16 V) (Proc.devRef .tc main_v145) (ix1 p)
      = ext0 (fun i => FloatOps.sitofp (F := Ideal) .f32 (candOf V i).l) p.val := by
  unfold padded
  refine ⟨⟨?_, ?_, ?_, ?_⟩, ⟨?_, ?_, ?_, ?_⟩, ?_, ?_, ?_⟩
  all_goals
    after_reads_simp
    simp only [TRef.ofBuf, TRef.toBuf, cast_eq, id]
    pointwise
    rfl

/-- The planes, from the lists before them. -/
theorem plane_read (h0 : V (Proc.devRef .tc main_cst_65) = fun _ => (0 : EReal)) (a : Fin 8) (b : Fin 128) :
    planes V (Proc.devRef .tc main_v169) (ix2 a b) = ext0 (fun i => V (Proc.devRef .tc main_v123) (ix1 i)) (a.val * 128 + b.val) ∧
    planes V (Proc.devRef .tc main_v171) (ix2 a b) = ext0 (fun i => V (Proc.devRef .tc main_v124) (ix1 i)) (a.val * 128 + b.val) ∧
    planes V (Proc.devRef .tc main_v173) (ix2 a b) = ext0 (fun i => V (Proc.devRef .tc main_v125) (ix1 i)) (a.val * 128 + b.val) ∧
    planes V (Proc.devRef .tc main_v175) (ix2 a b) = ext0 (fun i => V (Proc.devRef .tc main_v126) (ix1 i)) (a.val * 128 + b.val) ∧
    planes V (Proc.devRef .tc main_v177) (ix2 a b) = ext0 (fun i => V (Proc.devRef .tc main_v133) (ix1 i)) (a.val * 128 + b.val) ∧
    planes V (Proc.devRef .tc main_v180) (ix2 a b)
      = ext0 (fun i => FloatOps.uitofp (F := Ideal) .f32 (V (Proc.devRef .tc main_v116) (ix1 i))) (a.val * 128 + b.val) := by
  unfold planes
  refine ⟨?_, ?_, ?_, ?_, ?_, ?_⟩
  all_goals
    after_reads_simp
    simp only [TRef.ofBuf, TRef.toBuf, cast_eq, id]
    try rw [h0]
    pointwise
    rfl

/-- The contents that the second call reads. -/
abbrev packed : Valuation τ sig (Elt Ideal) := planes (after hostOps1_38 (padded (after hostOps1_16 V)))

/-- Laying out the planes leaves the table. -/
theorem packed_table : packed V (Proc.devRef .tc main_v167) = after hostOps1_38 (padded (after hostOps1_16 V)) (Proc.devRef .tc main_v167) := by
  unfold packed planes
  generalize after hostOps1_38 (padded (after hostOps1_16 V)) = Y
  after_reads_simp

/-- The planes, from the candidates. -/
theorem packed_plane (a : Fin 8) (b : Fin 128) :
    packed V (Proc.devRef .tc main_v169) (ix2 a b) = ext0 (fun i => (candOf V i).x1 + (candOf V i).off) (a.val * 128 + b.val) ∧
    packed V (Proc.devRef .tc main_v171) (ix2 a b) = ext0 (fun i => (candOf V i).y1 + (candOf V i).off) (a.val * 128 + b.val) ∧
    packed V (Proc.devRef .tc main_v173) (ix2 a b) = ext0 (fun i => (candOf V i).x2 + (candOf V i).off) (a.val * 128 + b.val) ∧
    packed V (Proc.devRef .tc main_v175) (ix2 a b) = ext0 (fun i => (candOf V i).y2 + (candOf V i).off) (a.val * 128 + b.val) ∧
    packed V (Proc.devRef .tc main_v177) (ix2 a b) = ext0 (fun i => (candOf V i).area) (a.val * 128 + b.val) ∧
    packed V (Proc.devRef .tc main_v180) (ix2 a b)
      = ext0 (fun i => FloatOps.uitofp (F := Ideal) .f32 (after hostOps1_16 V (Proc.devRef .tc main_v116) (ix1 i))) (a.val * 128 + b.val) := by
  have keep : ∀ r ∈ ([main_v123, main_v124, main_v125, main_v126, main_v133, main_v116] : List (Ref sig .tc)),
      after hostOps1_38 (padded (after hostOps1_16 V)) (Proc.devRef .tc r) = after hostOps1_16 V (Proc.devRef .tc r) := by
    generalize after hostOps1_16 V = Y
    intro r hr
    unfold padded
    fin_cases hr <;> after_reads_simp
  have h0 : after hostOps1_38 (padded (after hostOps1_16 V)) (Proc.devRef .tc main_cst_65) = fun _ => (0 : EReal) := by
    generalize padded (after hostOps1_16 V) = Y
    after_reads_simp
    funext q
    pointwise
  have h := plane_read _ h0 a b
  rw [keep main_v123 (by decide), keep main_v124 (by decide), keep main_v125 (by decide), keep main_v126 (by decide),
    keep main_v133 (by decide), keep main_v116 (by decide)] at h
  have hm := fun i => moved_read V i
  simp only [fun i => (hm i).1, fun i => (hm i).2.1, fun i => (hm i).2.2.1, fun i => (hm i).2.2.2.1, fun i => (hm i).2.2.2.2.1] at h
  exact h

end Cert.Proof.Ker
-- ==== Proof.KerCand.lean ====
module

public import proofs.«01_k».proof.Proof.KerTable

/-! The kernel's candidates, from its scores and its regression argument. -/

@[expose] public section

set_option maxRecDepth 16384

noncomputable section

namespace Cert.Proof.Ker

open Cert.KernelIdeal Cert.KernelIdeal.Gen
open Idealize.ShloMosaic Idealize.ShloMosaic.TcCoe Idealize.ShloMosaic.Tactic Idealize.ShloMosaic.StableHlo Idealize.SL.Sem
open Cert.Proof.Select Cert.Proof.Table

variable (V : Valuation τ sig (Elt Ideal))

/-- The stretches that find the candidates' classes and cells. -/
abbrev cells : Valuation τ sig (Elt Ideal) := after hostOps1_7 (after hostOps1_6 (after hostOps1_5 (after hostOps1_4 (after hostOps1_3
  (after hostOps1_2 (after hostOps1_1 V))))))

/-- The kernel's candidate at a place. -/
def kerCand (x0 : S1x4x128x160.Idx → EReal) (f : Fin 1638400 → EReal) (i : Fin 1000) : Cand :=
  candAt x0 f (fun _ => size) (fun l => centre (l.val % 160)) (fun _ => size) (fun l => centre (l.val / 160)) (place f i)

/-- The candidate that the kernel decodes at a rank is the one at the place of that rank. -/
theorem cand_eq (y : (⟨2, ![20480, 80]⟩ : Shape).Idx → EReal) (h : ∀ c l, V (Proc.devRef .tc main_v2) (ix2 c l) = y (ix2 l c)) (i : Fin 1000) :
    candOf (decoded (cells (after hostOps1 V))) i = kerCand (V (Proc.devRef .tc main_arg0)) (flat y) i := by
  have hi := ker_index V y h i
  have hv := ker_value V y h i
  have hc := c0_read V
  have hA : after hostOps1 V (Proc.devRef .tc main_arg0) = V (Proc.devRef .tc main_arg0) := by after_reads_simp
  have hp : (place (flat y) i).val < 2 ^ 31 := by have := (place (flat y) i).isLt; omega
  rw [← hA]
  generalize after hostOps1 V = W at *
  have k16 : ∀ Z : Valuation τ sig (Elt Ideal), after hostOps1_3 (after hostOps1_2 Z) (Proc.devRef .tc main_v16) = Z (Proc.devRef .tc main_v16) :=
    fun Z => by after_reads_simp
  have k16' : ∀ Z : Valuation τ sig (Elt Ideal), after hostOps1_5 (after hostOps1_4 Z) (Proc.devRef .tc main_v16) = Z (Proc.devRef .tc main_v16) :=
    fun Z => by after_reads_simp
  have k15 : after hostOps1_1 W (Proc.devRef .tc main_v15) = W (Proc.devRef .tc main_v15) := by after_reads_simp
  have kA : ∀ Z : Valuation τ sig (Elt Ideal), after hostOps1_3 (after hostOps1_2 (after hostOps1_1 Z)) (Proc.devRef .tc main_arg0)
      = Z (Proc.devRef .tc main_arg0) := fun Z => by after_reads_simp
  have k28 : ∀ Z : Valuation τ sig (Elt Ideal), after hostOps1_7 (after hostOps1_6 (after hostOps1_5 Z)) (Proc.devRef .tc main_v28)
      = Z (Proc.devRef .tc main_v28) := fun Z => by after_reads_simp
  have k30 : ∀ Z : Valuation τ sig (Elt Ideal), after hostOps1_7 Z (Proc.devRef .tc main_v30) = Z (Proc.devRef .tc main_v30) :=
    fun Z => by after_reads_simp
  have k19 : ∀ Z : Valuation τ sig (Elt Ideal), decoded (after hostOps1_7 (after hostOps1_6 (after hostOps1_5 Z))) (Proc.devRef .tc main_v19)
      = Z (Proc.devRef .tc main_v19) := fun Z => by unfold decoded; after_reads_simp
  have k14 : ∀ Z : Valuation τ sig (Elt Ideal), decoded (cells Z) (Proc.devRef .tc main_v14) = Z (Proc.devRef .tc main_v14) :=
    fun Z => by unfold decoded cells; after_reads_simp
  have h16 : after hostOps1_3 (after hostOps1_2 (after hostOps1_1 W)) (Proc.devRef .tc main_v16) (ix1 i)
      = BitVec.ofNat 32 (locOf (place (flat y) i)).val := by
    rw [k16]
    exact loc_read W i _ hp hi hc
  have h17 : after hostOps1_3 (after hostOps1_2 (after hostOps1_1 W)) (Proc.devRef .tc main_v17) (ix1 i)
      = BitVec.ofNat 32 ((place (flat y) i).val % 80) := cls_read _ i _ hp (by rw [k15]; exact hi)
  have hl : (locOf (place (flat y) i)).val < 2 ^ 31 := by have := (locOf (place (flat y) i)).isLt; omega
  have hR : ∀ k, cells W (Proc.devRef .tc main_v28) (ix2 i k) = atLoc (W (Proc.devRef .tc main_arg0)) k (locOf (place (flat y) i)) := by
    intro k
    refine (congrFun (k28 _) _).trans ((take_read _ i _ k h16).trans ?_)
    rw [kA]
  have h30 : cells W (Proc.devRef .tc main_v30) (ix1 i)
      = FloatOps.sitofp (F := Ideal) .f32 (BitVec.ofNat 32 ((locOf (place (flat y) i)).val % 160)) := by
    refine (congrFun (k30 _) _).trans ((float_read _ i).trans ?_)
    rw [col_read _ i _ hl h16]
  have h31 : cells W (Proc.devRef .tc main_v31) (ix1 i) = BitVec.ofNat 32 ((locOf (place (flat y) i)).val / 160) :=
    row_read _ i _ hl (by rw [k16']; exact h16)
  obtain ⟨e1, e2, e3, e4⟩ := box_read (cells W) i _ hR _ _ h30 h31
  have hs : decoded (cells W) (Proc.devRef .tc main_v14) (ix1 i) = flat y (place (flat y) i) := (congrFun (k14 W) _).trans hv
  have hb : decoded (cells W) (Proc.devRef .tc main_v19) (ix1 i) = IntOp.addi (BitVec.ofNat 32 ((place (flat y) i).val % 80)) 1#32 := by
    refine (congrFun (k19 _) _).trans ((label_read _ i).trans ?_)
    rw [h17]
  rw [candOf, e1, e2, e3, e4, hs, hb]
  rfl

end Cert.Proof.Ker
-- ==== Proof.RefTable.lean ====
module

public import proofs.«01_k».proof.Proof.RefRead

/-! The reference's table of candidates, from its arguments. -/

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.Tactic Idealize.ShloMosaic.StableHlo Idealize.SL.Sem
open Cert.Proof.Select Cert.Proof.Table

variable (V : Valuation τ sig (Elt Ideal))

/-- The contents after the candidates are selected, after their classes are known, and when the loop starts. -/
abbrev sel : Valuation τ sig (Elt Ideal) := after hostOps0_2 (after hostOps0_1 (after hostOps0 V))
abbrev cls : Valuation τ sig (Elt Ideal) := after hostOps0_5 (after hostOps0_4 (after hostOps0_3 (sel V)))
abbrev start : Valuation τ sig (Elt Ideal) := after hostOps0_14 (decoded (cls V))

/-- The reference's scores over all places, and its candidates. -/
def refScore : Fin 1638400 → EReal := flat (score (V (Proc.devRef .tc main_arg3)) (V (Proc.devRef .tc main_arg1)))
def refCand (i : Fin 1000) : Cand :=
  candAt (V (Proc.devRef .tc main_arg0)) (refScore V) (ancW (V (Proc.devRef .tc main_arg2)) 0 2) (ancC (V (Proc.devRef .tc main_arg2)) 0 2)
    (ancW (V (Proc.devRef .tc main_arg2)) 1 3) (ancC (V (Proc.devRef .tc main_arg2)) 1 3) (place (refScore V) i)

/-- The candidate that the reference decodes at a rank is the one at the place of that rank. -/
theorem cand_eq (i : Fin 1000) : candOf (decoded (cls V)) i = refCand V i := by
  have hi : sel V (Proc.devRef .tc main_indices) (ix1 i) = BitVec.ofNat 32 (place (refScore V) i).val := by
    refine (index_read _ i).trans ?_; rw [score_read]; rfl
  have hv : sel V (Proc.devRef .tc main_values) (ix1 i) = refScore V (place (refScore V) i) := by
    refine (value_read _ i).trans ?_; rw [score_read]; rfl
  have hp : (place (refScore V) i).val < 2 ^ 31 := by have := (place (refScore V) i).isLt; omega
  have hl : after hostOps0_3 (sel V) (Proc.devRef .tc main_v28) (ix1 i) = BitVec.ofNat 32 (locOf (place (refScore V) i)).val :=
    loc_read _ i _ hp hi (c_read _)
  have hk : cls V (Proc.devRef .tc main_v29) (ix1 i) = BitVec.ofNat 32 ((place (refScore V) i).val % 80) :=
    cls_read _ i _ hp (by rw [after_of_writes_sub hostOps0_3 _ hostOps0_3_writes (by decide +kernel)]; exact hi)
  have keep5 : ∀ r : Ref sig .tc, r ∉ hostOps0_3_W → r ∉ hostOps0_4_W → r ∉ hostOps0_5_W →
      cls V (Proc.devRef .tc r) = sel V (Proc.devRef .tc r) := fun r h3 h4 h5 =>
    (after_of_writes_sub hostOps0_5 _ hostOps0_5_writes h5).trans
      ((after_of_writes_sub hostOps0_4 _ hostOps0_4_writes h4).trans (after_of_writes_sub hostOps0_3 _ hostOps0_3_writes h3))
  have keep2 : ∀ r : Ref sig .tc, r ∉ hostOps0_1_W → r ∉ hostOps0_2_W → sel V (Proc.devRef .tc r) = after hostOps0 V (Proc.devRef .tc r) :=
    fun r h1 h2 => (after_of_writes_sub hostOps0_2 _ hostOps0_2_writes h2).trans (after_of_writes_sub hostOps0_1 _ hostOps0_1_writes h1)
  have keep13 : ∀ r : Ref sig .tc, r ∉ hostOps0_7_W → r ∉ hostOps0_8_W → r ∉ hostOps0_9_W → r ∉ hostOps0_10_W → r ∉ hostOps0_11_W →
      r ∉ hostOps0_12_W → r ∉ hostOps0_13_W → decoded (cls V) (Proc.devRef .tc r) = after hostOps0_6 (cls V) (Proc.devRef .tc r) :=
    fun r h7 h8 h9 h10 h11 h12 h13 => (after_of_writes_sub hostOps0_13 _ hostOps0_13_writes h13).trans
      ((after_of_writes_sub hostOps0_12 _ hostOps0_12_writes h12).trans ((after_of_writes_sub hostOps0_11 _ hostOps0_11_writes h11).trans
      ((after_of_writes_sub hostOps0_10 _ hostOps0_10_writes h10).trans ((after_of_writes_sub hostOps0_9 _ hostOps0_9_writes h9).trans
      ((after_of_writes_sub hostOps0_8 _ hostOps0_8_writes h8).trans (after_of_writes_sub hostOps0_7 _ hostOps0_7_writes h7))))))
  have hA : cls V (Proc.devRef .tc main_arg2) = V (Proc.devRef .tc main_arg2) :=
    (keep5 main_arg2 (by decide +kernel) (by decide +kernel) (by decide +kernel)).trans
      ((keep2 main_arg2 (by decide +kernel) (by decide +kernel)).trans (after_of_writes_sub hostOps0 _ hostOps0_writes (by decide +kernel)))
  have hR : cls V (Proc.devRef .tc main_v11) = after hostOps0 V (Proc.devRef .tc main_v11) :=
    (keep5 main_v11 (by decide +kernel) (by decide +kernel) (by decide +kernel)).trans (keep2 main_v11 (by decide +kernel) (by decide +kernel))
  have hl' : cls V (Proc.devRef .tc main_v28) (ix1 i) = BitVec.ofNat 32 (locOf (place (refScore V) i)).val := by
    refine (congrFun ?_ _).trans hl
    exact (after_of_writes_sub hostOps0_5 _ hostOps0_5_writes (by decide +kernel)).trans
      (after_of_writes_sub hostOps0_4 _ hostOps0_4_writes (by decide +kernel))
  have hs : decoded (cls V) (Proc.devRef .tc main_values) (ix1 i) = refScore V (place (refScore V) i) := by
    refine (congrFun ((keep13 main_values (by decide +kernel) (by decide +kernel) (by decide +kernel) (by decide +kernel) (by decide +kernel)
      (by decide +kernel) (by decide +kernel)).trans ((after_of_writes_sub hostOps0_6 _ hostOps0_6_writes (by decide +kernel)).trans
      (keep5 main_values (by decide +kernel) (by decide +kernel) (by decide +kernel)))) _).trans hv
  have hb : decoded (cls V) (Proc.devRef .tc main_v31) (ix1 i) = IntOp.addi (BitVec.ofNat 32 ((place (refScore V) i).val % 80)) 1#32 := by
    refine (congrFun (keep13 main_v31 (by decide +kernel) (by decide +kernel) (by decide +kernel) (by decide +kernel) (by decide +kernel)
      (by decide +kernel) (by decide +kernel)) _).trans ((label_read _ i).trans ?_)
    rw [hk]
  obtain ⟨e1, e2, e3, e4⟩ := box_read (cls V) i _ hl' _ (fun k => (congrFun hR _).trans (reg_read V _ k)) _ hA
  rw [candOf, e1, e2, e3, e4, hs, hb]
  rfl

/-- What the loop starts from. -/
theorem start_read :
    (∀ i j : Fin 1000, start V (Proc.devRef .tc main_v212_0) (ix2 i j) = (refCand V i).meet (refCand V j)) ∧
    (∀ i : Fin 1000, start V (Proc.devRef .tc main_v212_1) (ix1 i) = BitVec.ofNat 32 i.val) ∧
    (∀ i, start V (Proc.devRef .tc main_v212_4) (ix1 i) = 1#1 ↔ (refCand V i).ok) ∧
    (∀ i, start V (Proc.devRef .tc main_v156) (ix1 i) = (refCand V i).out) := by
  refine ⟨fun i j => ?_, fun i => iota_read _ i, fun i => ?_, fun i => ?_⟩
  · refine (iou_read _ i j).trans ?_; rw [cand_eq, cand_eq]
  · refine (ok_read _ i).trans ?_; rw [cand_eq]
  · refine (out_read _ i).trans ?_; rw [cand_eq]

/-- The trips' counter starts at zero. -/
theorem start_ctr : start V (Proc.devRef .tc main_v212_3) ix0 = 0#32 := by
  unfold start
  after_reads_simp
  rfl

/-- The boxes and labels the last stretch takes from. -/
theorem start_box (i : Fin 1000) :
    start V (Proc.devRef .tc main_v139) (ix2 i 0) = (refCand V i).x1 ∧ start V (Proc.devRef .tc main_v139) (ix2 i 1) = (refCand V i).y1 ∧
    start V (Proc.devRef .tc main_v139) (ix2 i 2) = (refCand V i).x2 ∧ start V (Proc.devRef .tc main_v139) (ix2 i 3) = (refCand V i).y2 ∧
    start V (Proc.devRef .tc main_v31) (ix1 i) = (refCand V i).l := by
  obtain ⟨h1, h2, h3, h4⟩ := edge_read (decoded (cls V)) i
  rw [cand_eq] at h1 h2 h3 h4
  refine ⟨h1, h2, h3, h4, ?_⟩
  rw [← cand_eq]
  exact congrFun (after_of_writes_sub hostOps0_14 _ hostOps0_14_writes (by decide +kernel)) _

/-- One trip's truth words: a candidate stays unless an earlier one that is still there overlaps it too much. -/
theorem step_keep (V0 : Valuation τ sig (Elt Ideal)) (k : Fin 1000) (h3 : V0 (Proc.devRef .tc main_v212_3) = fun _ => BitVec.ofNat 32 k.val)
    (h1 : ∀ j : Fin 1000, V0 (Proc.devRef .tc main_v212_1) (ix1 j) = BitVec.ofNat 32 j.val) (j : Fin 1000) :
    step_main_v212_4 V0 (ix1 j) = 1#1 ↔ V0 (Proc.devRef .tc main_v212_4) (ix1 j) = 1#1 ∧
      ¬ ((Ideal.ofBits .f32 0x3F19999A#32 < V0 (Proc.devRef .tc main_v212_0) (ix2 k j) ∧ k.val < j.val) ∧
        V0 (Proc.devRef .tc main_v212_4) (ix1 k) = 1#1) := by
  have key0 : ∀ (a b : ℕ) (ha : a < 1000) (hb : b < 1000), a = k.val → b = j.val →
      V0 (Proc.devRef .tc main_v212_0) (ix2 ⟨a, ha⟩ ⟨b, hb⟩) = V0 (Proc.devRef .tc main_v212_0) (ix2 k j) :=
    fun a b ha hb ea eb => by subst ea eb; rfl
  have key4 : ∀ (a : ℕ) (ha : a < 1000), a = k.val →
      V0 (Proc.devRef .tc main_v212_4) (ix1 ⟨a, ha⟩) = V0 (Proc.devRef .tc main_v212_4) (ix1 k) :=
    fun a ha ea => by subst ea; rfl
  have hk : (BitVec.ofNat 32 k.val).toInt = k.val := StableHlo.Predicate.toInt_ofNat_small _ (by have := k.isLt; omega)
  have hw : (Scalar.select (IntOp.cmpi .slt (BitVec.ofNat 32 k.val) 0#32) (IntOp.addi (BitVec.ofNat 32 k.val) 1000#32) (BitVec.ofNat 32 k.val)).toInt
      = k.val := (congrArg BitVec.toInt (wrap k.val 1000#32 (by have := k.isLt; omega))).trans hk
  unfold step_main_v212_4 res_main_while0b_v231
  rw [h3]
  simp only [id]
  pointwise
  rw [h1, and_eq_one, not_eq_one, and_eq_one, and_eq_one, Run.ofBool_eq_one,
    Run.sgt_iff (by have := j.isLt; omega) (by have := k.isLt; omega)]
  refine and_congr Iff.rfl (not_congr (and_congr (and_congr ?_ Iff.rfl) ?_))
  · refine iff_of_eq (congrArg (fun z : EReal => Ideal.ofBits .f32 0x3F19999A#32 < z) (key0 _ _ _ _ ?_ ?_))
    · refine Host.clampedStart_of_le _ _ _ k.val ?_ ?_
      · pointwise
        exact hw
      · have := k.isLt; show k.val + 1 ≤ 1000; omega
    · refine (congrArg (· + j.val) (Host.clampedStart_of_le _ _ _ 0 ?_ (by decide))).trans (Nat.zero_add _)
      rfl
  · refine iff_of_eq (congrArg (· = 1#1) (key4 _ _ ?_))
    refine Host.clampedStart_of_le _ _ _ k.val hw ?_
    have := k.isLt; show k.val + 1 ≤ 1000; omega

/-- After `k` trips: the overlaps, positions and counter, and what is still there. -/
theorem trips (E : Valuation τ sig (Elt Ideal)) (h3 : E (Proc.devRef .tc main_v212_3) ix0 = 0#32)
    (k : ℕ) :
    (STEP^[k] E (Proc.devRef .tc main_v212_0) = E (Proc.devRef .tc main_v212_0) ∧
      STEP^[k] E (Proc.devRef .tc main_v212_1) = E (Proc.devRef .tc main_v212_1)) ∧
    STEP^[k] E (Proc.devRef .tc main_v212_3) = fun _ => BitVec.ofNat 32 k := by
  induction k with
  | zero =>
    refine ⟨⟨rfl, rfl⟩, funext fun q => ?_⟩
    rw [show q = ix0 from funext fun a => a.elim0]
    exact h3
  | succ k ih =>
    obtain ⟨⟨i0, i1⟩, i3⟩ := ih
    rw [Function.iterate_succ_apply']
    refine ⟨⟨(STEP_main_v212_0 _).trans i0, (STEP_main_v212_1 _).trans i1⟩, (STEP_main_v212_3 _).trans ?_⟩
    unfold step_main_v212_3
    rw [i3]
    funext q
    show BitVec.ofNat 32 k + 1#32 = BitVec.ofNat 32 (k + 1)
    rw [BitVec.ofNat_add]

/-- The loop ends at the set the sweep keeps. -/
theorem loop_keep (E : Valuation τ sig (Elt Ideal)) (d : Fin 1000 → Cand)
    (h0 : ∀ i j, E (Proc.devRef .tc main_v212_0) (ix2 i j) = (d i).meet (d j))
    (h1 : ∀ i : Fin 1000, E (Proc.devRef .tc main_v212_1) (ix1 i) = BitVec.ofNat 32 i.val)
    (h3 : E (Proc.devRef .tc main_v212_3) ix0 = 0#32)
    (h4 : ∀ i, E (Proc.devRef .tc main_v212_4) (ix1 i) = 1#1 ↔ (d i).ok) :
    NmsMath.IsKeep 1000 (fun p => ∃ h : p < 1000, (d ⟨p, h⟩).ok)
      (fun p q => ∃ (h : p < 1000) (h' : q < 1000), Ideal.ofBits .f32 0x3F19999A#32 < (d ⟨p, h⟩).meet (d ⟨q, h'⟩))
      (fun p => ∃ h : p < 1000, STEP^[1000] E (Proc.devRef .tc main_v212_4) (ix1 ⟨p, h⟩) = 1#1) := by
  refine NmsMath.isKeep_of_sweep 1000 _ _ (fun k p => ∃ h : p < 1000, STEP^[k] E (Proc.devRef .tc main_v212_4) (ix1 ⟨p, h⟩) = 1#1) ?_ ?_
  · exact fun j hj => exists_congr fun h => h4 _
  · intro t ht j hj
    obtain ⟨⟨i0, i1⟩, i3⟩ := trips E h3 t
    have hs := step_keep (STEP^[t] E) ⟨t, ht⟩ i3 (fun j => by rw [i1]; exact h1 j) ⟨j, hj⟩
    rw [i0, h0] at hs
    rw [Function.iterate_succ_apply']
    simp only [exists_prop_of_true hj, exists_prop_of_true ht]
    rw [STEP_main_v212_4]
    refine hs.trans (and_congr Iff.rfl (not_congr ?_))
    tauto

end Cert.Proof.Ref
-- ==== Proof.RefPost.lean ====
module

public import proofs.«01_k».proof.Proof.RefTable

/-! The reference's last stretch: the hundred best of what the loop kept, with their boxes, scores and labels. -/

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.Tactic Idealize.ShloMosaic.StableHlo Idealize.SL.Sem
open Cert.Proof.Select Cert.Proof.Table Cert.Proof.Selection

/-- The position of the `t`-th best of a thousand values. -/
def top (g : Fin 1000 → EReal) (t : Fin 100) : Fin 1000 := sortedFrom (first g) (t.castLE (by decide))

/-- The best hundred of a list: their values, -/
theorem best_value (x : S1000.Idx → EReal) (t : Fin 100) :
    (Host.topK S100 0 (FloatOps.cmpfTotal (F := Ideal) (φ := .f32) .gt) x sliceFits_S1000_S100).1 (ix1 t)
      = x (ix1 (top (fun p => x (ix1 p)) t)) := by
  unfold Host.topK Host.sort2 top
  pointwise
  simp only [gt_word, along1, ← sort_first]
  rfl

/-- and their positions. -/
theorem best_index (x : S1000.Idx → EReal) (t : Fin 100) :
    (Host.topK S100 0 (FloatOps.cmpfTotal (F := Ideal) (φ := .f32) .gt) x sliceFits_S1000_S100).2 (ix1 t)
      = BitVec.ofNat 32 (top (fun p => x (ix1 p)) t).val := by
  unfold Host.topK Host.sort2 top
  pointwise
  simp only [gt_word, along1, ← sort_first]
  rfl

variable (W : Valuation τ sig (Elt Ideal))

/-- The contents at the end. -/
abbrev post : Valuation τ sig (Elt Ideal) := after hostOps0_17 (after hostOps0_16 (after hostOps0_15 W))

/-- The score that a position is ranked by at the end: zero where the loop cleared it. -/
def kept (p : Fin 1000) : EReal :=
  if W (Proc.devRef .tc main_v212_4) (ix1 p) = 1#1 then W (Proc.devRef .tc main_v156) (ix1 p) else 0

/-- It is what the last selection reads. -/
theorem kept_read (p : Fin 1000) : after hostOps0_16 (after hostOps0_15 W) (Proc.devRef .tc main_v213) (ix1 p) = kept W p := by
  after_reads_simp
  simp only [TRef.ofBuf, TRef.toBuf, cast_eq, id]
  pointwise
  rfl

/-- The indices the last stretch gathers at. -/
theorem gather_index (w : IVec S100 32) (t : Fin 100) (b : Fin 1000) (h : w (ix1 t) = BitVec.ofNat 32 b.val) :
    broadcastInDim S100x1 ![0] bcast_S100_S100x1_0
        (select (cmpi CmpIPredicate.slt w (broadcastInDim S100 ![] bcast_S_S100 (constantI S_ 32 0#32)))
          (addi w (broadcastInDim S100 ![] bcast_S_S100 (constantI S_ 32 1000#32))) w) (ix2 t 0) = BitVec.ofNat 32 b.val := by
  pointwise
  rw [h]
  exact wrap _ _ (by have := b.isLt; omega)

/-- The labels at the end. -/
theorem label_post (t : Fin 100) : post W (Proc.devRef .tc main_v227) (ix1 t) = W (Proc.devRef .tc main_v31) (ix1 (top (kept W) t)) := by
  have hk : (fun p => after hostOps0_16 (after hostOps0_15 W) (Proc.devRef .tc main_v213) (ix1 p)) = kept W := funext (kept_read W)
  have hv : after hostOps0_16 (after hostOps0_15 W) (Proc.devRef .tc main_v31) = W (Proc.devRef .tc main_v31) := by
    after_reads_simp
  unfold post
  generalize after hostOps0_16 (after hostOps0_15 W) = Y at *
  rw [← hv, ← hk]
  after_reads_simp
  exact Routing.gather_take1 gather_S1000_S100x1_S100_n_0_n_n_0_1_1 rfl rfl rfl rfl _ _ t _ (gather_index _ _ _ (best_index _ t)) (by decide)

/-- The boxes and the scores at the end. -/
theorem box_post (t : Fin 100) :
    (∀ k : Fin 4, post W (Proc.devRef .tc main_v229) (ix2 t k.castSucc) = W (Proc.devRef .tc main_v139) (ix2 (top (kept W) t) k)) ∧
    post W (Proc.devRef .tc main_v229) (ix2 t 4) = kept W (top (kept W) t) := by
  have hk : (fun p => after hostOps0_16 (after hostOps0_15 W) (Proc.devRef .tc main_v213) (ix1 p)) = kept W := funext (kept_read W)
  have hv : after hostOps0_16 (after hostOps0_15 W) (Proc.devRef .tc main_v139) = W (Proc.devRef .tc main_v139) := by
    after_reads_simp
  unfold post
  generalize after hostOps0_16 (after hostOps0_15 W) = Y at *
  rw [← hv, ← hk]
  have hg := fun k => Routing.gather_row gather_S1000x4_S100x1_S100x4_1_0_n_n_0_1_14 rfl rfl rfl rfl rfl (Y (Proc.devRef .tc main_v139)) _ t k _
    (gather_index _ _ _ (best_index (Y (Proc.devRef .tc main_v213)) t)) (by decide)
  constructor
  · intro k
    refine Eq.trans ?_ (hg k)
    fin_cases k <;> (after_reads_simp; pointwise; rfl)
  · refine Eq.trans ?_ (best_value (Y (Proc.devRef .tc main_v213)) t)
    after_reads_simp
    pointwise

/-! ## The whole run -/

section
variable (m : (ℓ : Loc nD τ sig) → Buf (Elt Ideal) ℓ) (c : Dev nD)

/-- The reference's candidates, whether each is kept, and the value each is ranked by at the end. -/
abbrev cands : Fin 1000 → Cand := refCand (launchContents m c)
def keeps (p : ℕ) : Prop :=
  ∃ h : p < 1000, STEP^[1000] (start (launchContents m c)) (Proc.devRef .tc main_v212_4) (ix1 ⟨p, h⟩) = 1#1
open Classical in
def rankVal (p : Fin 1000) : EReal := if keeps m c p.val then (cands m c p).out else 0

/-- What is kept is what the sweep over the candidates keeps. -/
theorem keeps_isKeep : NmsMath.IsKeep 1000 (fun p => ∃ h : p < 1000, (cands m c ⟨p, h⟩).ok)
    (fun p q => ∃ (h : p < 1000) (h' : q < 1000), Ideal.ofBits .f32 0x3F19999A#32 < (cands m c ⟨p, h⟩).meet (cands m c ⟨q, h'⟩)) (keeps m c) :=
  loop_keep (start (launchContents m c)) (cands m c) (start_read _).1 (start_read _).2.1 (start_ctr _) (start_read _).2.2.1

/-- The reference's results: the best hundred of the candidates, with boxes, scores and labels. -/
theorem final_read (t : Fin 100) :
    (∀ k : Fin 4, finalContents condOps preI bodyI postI 1000 m c (Proc.devRef .tc main_v229) (ix2 t k.castSucc)
      = start (launchContents m c) (Proc.devRef .tc main_v139) (ix2 (top (rankVal m c) t) k)) ∧
    finalContents condOps preI bodyI postI 1000 m c (Proc.devRef .tc main_v229) (ix2 t 4) = rankVal m c (top (rankVal m c) t) ∧
    finalContents condOps preI bodyI postI 1000 m c (Proc.devRef .tc main_v227) (ix1 t) = (cands m c (top (rankVal m c) t)).l := by
  have keep : ∀ r : Ref sig .tc, r ∉ while0Ops0_W → r ∉ condOps_W →
      after condOps (atK m 1000 c) (Proc.devRef .tc r) = start (launchContents m c) (Proc.devRef .tc r) := fun r h h' =>
    (after_of_writes_sub condOps _ condOps_writes h').trans (atK_keep m c r h h' 1000)
  have h4 : after condOps (atK m 1000 c) (Proc.devRef .tc main_v212_4)
      = STEP^[1000] (start (launchContents m c)) (Proc.devRef .tc main_v212_4) :=
    (cond_keeps _ main_v212_4 (by decide)).trans (atK_agree m c 1000 main_v212_4 (by decide))
  have hk : kept (after condOps (atK m 1000 c)) = rankVal m c := by
    funext p
    unfold kept rankVal keeps
    rw [h4, keep main_v156 (by decide +kernel) (by decide +kernel), (start_read _).2.2.2]
    simp only [exists_prop_of_true p.isLt]
  have hb := box_post (after condOps (atK m 1000 c)) t
  have hl := label_post (after condOps (atK m 1000 c)) t
  rw [hk, keep main_v139 (by decide +kernel) (by decide +kernel)] at hb
  rw [hk, keep main_v31 (by decide +kernel) (by decide +kernel), (start_box _ _).2.2.2.2] at hl
  exact ⟨hb.1, hb.2, hl⟩

end
end Cert.Proof.Ref
-- ==== Proof.NmsEq.lean ====
module

public import proofs.«01_k».proof.Proof.KerCand
public import proofs.«01_k».proof.Proof.RefPost

/-! The kernel's taking loop over the candidates takes the same hundred, in the same order, as the reference's last selection. -/

@[expose] public section

set_option maxRecDepth 16384

noncomputable section

namespace Cert.Proof.Final

open Idealize.ShloMosaic Idealize.ShloMosaic.TcCoe Idealize.ShloMosaic.Tactic
open Cert.KernelIdeal (S1024x16 S8x128)
open Cert.Proof.Select Cert.Proof.Selection Cert.Proof.Table Cert.Proof.Run
open Cert.Proof.Ref (top)
open Cert.Proof.Ker (ext0)

/-- The square root keeps order, and is positive on positive numbers. -/
theorem sqrt_mono {a b : EReal} (h : a ≤ b) (ha : 0 ≤ a) : Ideal.sqrt a ≤ Ideal.sqrt b := by
  induction b with
  | bot => exact absurd (ha.trans h) (by simp)
  | top => exact le_top
  | coe y =>
    induction a with
    | bot => exact absurd ha (by simp)
    | top => simp at h
    | coe x =>
      have hx : 0 ≤ x := by exact_mod_cast ha
      have hxy : x ≤ y := by exact_mod_cast h
      show (if x < 0 then (⊥ : EReal) else (Real.sqrt x : EReal)) ≤ if y < 0 then (⊥ : EReal) else (Real.sqrt y : EReal)
      rw [if_neg (not_lt.mpr hx), if_neg (not_lt.mpr (hx.trans hxy))]
      exact_mod_cast Real.sqrt_le_sqrt hxy

/-- The square root of a positive number is positive. -/
theorem sqrt_pos {a : EReal} (h : 0 < a) : 0 < Ideal.sqrt a := by
  induction a with
  | bot => simp at h
  | top => exact EReal.coe_lt_top 0
  | coe x =>
    have hx : 0 < x := by exact_mod_cast h
    show (0 : EReal) < if x < 0 then (⊥ : EReal) else (Real.sqrt x : EReal)
    rw [if_neg (not_lt.mpr hx.le)]
    exact_mod_cast Real.sqrt_pos.mpr hx

/-- The least score that is reported is positive. -/
theorem floor_pos : 0 < Ideal.ofBits .f32 0x2B8CBCCC#32 := by
  simp only [Ideal.ofBits, Ideal.ieee]
  simp
  rw [← EReal.coe_mul]
  exact_mod_cast by positivity

/-- A reported score is positive. -/
theorem out_pos (d : Cand) : 0 < d.out := sqrt_pos (lt_of_lt_of_le floor_pos (le_max_right _ _))

/-- Reported scores keep the order of the scores. -/
theorem out_mono (d e : Cand) (h : d.s ≤ e.s) : d.out ≤ e.out :=
  sqrt_mono (max_le_max h le_rfl) (floor_pos.le.trans (le_max_right _ _))

/-- The candidates come in the order of their scores. -/
theorem place_order (f : Fin 1638400 → EReal) (i j : Fin 1000) (h : i < j) : f (place f j) ≤ f (place f i) := by
  have hn := no_inversion (first_total f) (i.castLE (by decide)) (j.castLE (by decide)) h
  rw [← sort_first] at hn
  by_contra hc
  have := (first_iff f (place f j) (place f i)).mpr (.inl (not_le.mp hc))
  exact Bool.noConfusion (this.symm.trans hn)

section
variable (d : Fin 1000 → Cand) (Keep : ℕ → Prop)

open Classical in
/-- What a position is ranked by: its reported score if kept, zero if not. -/
def rank (p : Fin 1000) : EReal := if Keep p.val then (d p).out else 0

/-- A position that comes before another is not ranked after it. -/
theorem rank_before (hs : ∀ i j : Fin 1000, i < j → (d j).s ≤ (d i).s) (p q : Fin 1000) (h : NmsMath.Before Keep p.val q.val) :
    first (rank d Keep) q p = false := by
  rw [← Bool.not_eq_true, first_iff]
  unfold rank
  rcases h with ⟨hp, hq⟩ | ⟨hpq, hlt⟩
  · rw [if_pos hp, if_neg hq]
    rintro (h | ⟨h, -⟩)
    · exact lt_asymm (out_pos (d p)) h
    · exact (out_pos (d p)).ne h
  · have hn : ¬ q < p := fun h => absurd h (not_lt.mpr hlt.le)
    by_cases hp : Keep p.val
    · rw [if_pos hp, if_pos (hpq.mp hp)]
      rintro (h | ⟨-, h⟩)
      · exact absurd h (not_lt.mpr (out_mono _ _ (hs p q hlt)))
      · exact hn h
    · rw [if_neg hp, if_neg (fun h => hp (hpq.mpr h))]
      rintro (h | ⟨-, h⟩)
      · exact absurd h (lt_irrefl _)
      · exact hn h

/-- So a run of the taking loop takes the positions in the order of the ranking. -/
theorem top_eq_pick (hs : ∀ i j : Fin 1000, i < j → (d j).s ≤ (d i).s) {valid : ℕ → Prop} {S : ℕ → ℕ → Prop}
    {a r : ℕ → ℕ → Prop} {pick : ℕ → ℕ} {has : ℕ → Prop} (hK : NmsMath.IsKeep 1000 valid S Keep)
    (hr : NmsMath.Run 1000 100 valid S a r pick has) (t : Fin 100) : (top (rank d Keep) t).val = pick t.val := by
  have hT : (100 : ℕ) ≤ 1000 := by decide
  let σ : Fin 100 → Fin 1000 := fun t => ⟨pick t.val, NmsMath.pick_lt hK hT hr t.isLt⟩
  have hinj : Function.Injective σ := fun s t h => Fin.ext (NmsMath.pick_inj hK hT hr s.isLt t.isLt (congrArg Fin.val h))
  have e : top (rank d Keep) t = σ t := by
    refine (first_total (rank d Keep)).sortedFrom_eq_of_prefix hT σ hinj (fun i j hij => ?_) (fun i p hp => ?_) t
    · refine rank_before d Keep hs _ _ (NmsMath.pick_before hK hT hr i.isLt (σ j).isLt fun s hsi he => ?_)
      have := NmsMath.pick_inj hK hT hr (by have := j.isLt; omega) (by have := i.isLt; omega) he
      have : i.val < j.val := hij
      omega
    · refine rank_before d Keep hs _ _ (NmsMath.pick_before hK hT hr i.isLt p.isLt fun s hsi he => ?_)
      exact hp ⟨s, by have := i.isLt; omega⟩ (Fin.ext he.symm)
  exact congrArg Fin.val e

end

/-- A label's word comes back from its float. -/
theorem label_back (n : ℕ) (hn : n < 80) :
    Ideal.fptosi 32 (FloatOps.sitofp (F := Ideal) .f32 (BitVec.ofNat 32 n + 1#32)) = BitVec.ofNat 32 n + 1#32 := by
  have e : (BitVec.ofNat 32 n + 1#32) = BitVec.ofNat 32 (n + 1) := (BitVec.ofNat_add n 1).symm
  rw [e, show FloatOps.sitofp (F := Ideal) .f32 (BitVec.ofNat 32 (n + 1)) = (((BitVec.ofNat 32 (n + 1)).toInt : ℝ) : EReal) from rfl,
    StableHlo.Predicate.toInt_ofNat_small _ (by omega)]
  rw [Ideal.fptosi, Ideal.toIntClamped_coe]
  have h0 : (0 : ℝ) ≤ (((n + 1 : ℕ) : ℤ) : ℝ) := by exact_mod_cast Nat.zero_le _
  rw [if_pos h0, Int.floor_intCast, min_eq_right (by push_cast; omega), max_eq_right (by push_cast; omega)]
  rfl

section
variable (d : Fin 1000 → Cand) (X : S1024x16.Idx → Ideal .f32) (x1 y1 x2 y2 ar ac : Vec Ideal S8x128 .f32)

/-- The table and the planes hold the candidates. -/
structure Holds : Prop where
  box : ∀ p : Fin 1024, X (ix2 p 0) = ext0 (fun i => (d i).x1) p.val ∧ X (ix2 p 1) = ext0 (fun i => (d i).y1) p.val ∧
    X (ix2 p 2) = ext0 (fun i => (d i).x2) p.val ∧ X (ix2 p 3) = ext0 (fun i => (d i).y2) p.val
  moved : ∀ p : Fin 1024, X (ix2 p 4) = ext0 (fun i => (d i).x1 + (d i).off) p.val ∧
    X (ix2 p 5) = ext0 (fun i => (d i).y1 + (d i).off) p.val ∧
    X (ix2 p 6) = ext0 (fun i => (d i).x2 + (d i).off) p.val ∧ X (ix2 p 7) = ext0 (fun i => (d i).y2 + (d i).off) p.val
  rest : ∀ p : Fin 1024, X (ix2 p 8) = ext0 (fun i => (d i).area) p.val ∧ X (ix2 p 9) = ext0 (fun i => (d i).out) p.val ∧
    X (ix2 p 10) = ext0 (fun i => FloatOps.sitofp (F := Ideal) .f32 (d i).l) p.val
  lanes : ∀ i, x1 i = ext0 (fun i => (d i).x1 + (d i).off) (posOf i) ∧ y1 i = ext0 (fun i => (d i).y1 + (d i).off) (posOf i) ∧
    x2 i = ext0 (fun i => (d i).x2 + (d i).off) (posOf i) ∧ y2 i = ext0 (fun i => (d i).y2 + (d i).off) (posOf i) ∧
    ar i = ext0 (fun i => (d i).area) (posOf i)
  active : ∀ i, 0 < ac i ↔ ∃ h : posOf i < 1000, (d ⟨posOf i, h⟩).ok

variable {d X x1 y1 x2 y2 ar ac}

/-- Below a thousand the padded list is the list. -/
theorem ext0_of (f : Fin 1000 → EReal) {p : ℕ} (h : p < 1000) : ext0 f p = f ⟨p, h⟩ := dif_pos h

/-- The kernel starts with the candidates that take part, -/
theorem Holds.valid (H : Holds d X x1 y1 x2 y2 ar ac) {p : ℕ} (hp : p < 1000) : validP ac p ↔ (d ⟨p, hp⟩).ok := by
  constructor
  · rintro ⟨i, rfl, hi⟩
    obtain ⟨h, ho⟩ := (H.active i).mp hi
    exact ho
  · intro ho
    refine ⟨laneOf p (by omega), posOf_laneOf _ _, (H.active _).mpr ?_⟩
    simp only [posOf_laneOf]
    exact ⟨hp, ho⟩

/-- and suppresses by the overlap of the moved boxes. -/
theorem Holds.sup (H : Holds d X x1 y1 x2 y2 ar ac) {p q : ℕ} (hp : p < 1000) (hq : q < 1000) :
    supP X x1 y1 x2 y2 ar p q ↔ Ideal.ofBits .f32 0x3F19999A#32 < (d ⟨p, hp⟩).meet (d ⟨q, hq⟩) := by
  have key : ∀ i, posOf i = q → (supAt X x1 y1 x2 y2 ar p i ↔ Ideal.ofBits .f32 0x3F19999A#32 < (d ⟨p, hp⟩).meet (d ⟨q, hq⟩)) := by
    rintro i rfl
    obtain ⟨a1, a2, a3, a4, a5⟩ := H.lanes i
    have hm : p % 1024 = p := Nat.mod_eq_of_lt (by omega)
    obtain ⟨b1, b2, b3, b4⟩ := H.moved ⟨p % 1024, Nat.mod_lt _ (by decide)⟩
    have b5 := (H.rest ⟨p % 1024, Nat.mod_lt _ (by decide)⟩).1
    unfold supAt Cand.meet
    rw [a1, a2, a3, a4, a5, b1, b2, b3, b4, b5, overlap_comm]
    simp only [hm, ext0_of _ hp, ext0_of _ hq]
  constructor
  · rintro ⟨i, hi, h⟩
    exact (key i hi).mp h
  · exact fun h => ⟨laneOf q (by omega), posOf_laneOf _ _, (key _ (posOf_laneOf _ _)).mpr h⟩

/-- The kernel's rows are the best hundred of what the sweep keeps. -/
theorem Holds.rows (H : Holds d X x1 y1 x2 y2 ar ac) (hs : ∀ i j : Fin 1000, i < j → (d j).s ≤ (d i).s) (Keep : ℕ → Prop)
    (hK : NmsMath.IsKeep 1000 (fun p => ∃ h : p < 1000, (d ⟨p, h⟩).ok)
      (fun p q => ∃ (h : p < 1000) (h' : q < 1000), Ideal.ofBits .f32 0x3F19999A#32 < (d ⟨p, h⟩).meet (d ⟨q, h'⟩)) Keep)
    (t : Fin 100) (k : Fin 8) :
    nmsOut X x1 y1 x2 y2 ar ac (ix2 t k) =
      if k.val = 0 then (d (top (rank d Keep) t)).x1 else if k.val = 1 then (d (top (rank d Keep) t)).y1
      else if k.val = 2 then (d (top (rank d Keep) t)).x2 else if k.val = 3 then (d (top (rank d Keep) t)).y2
      else if k.val = 4 then rank d Keep (top (rank d Keep) t)
      else if k.val = 5 then FloatOps.sitofp (F := Ideal) .f32 (d (top (rank d Keep) t)).l else 0 := by
  have hpad : ∀ i, 1000 ≤ posOf i → ¬ 0 < ac i := fun i hi h => by
    obtain ⟨h', -⟩ := (H.active i).mp h
    omega
  have hr := nms_runs X x1 y1 x2 y2 ar ac hpad
  have hK' : NmsMath.IsKeep 1000 (validP ac) (supP X x1 y1 x2 y2 ar) Keep := by
    intro j hj
    rw [hK j hj, H.valid hj]
    refine and_congr ⟨fun ⟨_, h⟩ => h, fun h => ⟨hj, h⟩⟩ (forall_congr' fun i => forall_congr' fun hij => ?_)
    refine imp_congr Iff.rfl (not_congr ?_)
    rw [H.sup (by omega) hj]
    exact ⟨fun ⟨_, _, h⟩ => h, fun h => ⟨_, _, h⟩⟩
  have hp := top_eq_pick d Keep hs hK' hr t
  have hh := NmsMath.has_iff hK' (by decide) hr t.isLt
  have hlt := (top (rank d Keep) t).isLt
  generalize top (rank d Keep) t = q at *
  have hm : (pickW (marksAt X x1 y1 x2 y2 ar ac t.val).1 (marksAt X x1 y1 x2 y2 ar ac t.val).2).toNat % 1024 = q.val := by
    rw [hp]
    exact Nat.mod_eq_of_lt (by have : pickP X x1 y1 x2 y2 ar ac t.val < 1000 := hp ▸ hlt; exact this.trans (by decide))
  obtain ⟨b0, b1, b2, b3⟩ := H.box ⟨q.val, hlt.trans (by decide)⟩
  obtain ⟨-, b4, b5⟩ := H.rest ⟨q.val, hlt.trans (by decide)⟩
  rw [ext0_of _ hlt] at b0 b1 b2 b3 b4 b5
  rw [← hp] at hh
  have hr4 : (if hasW (marksAt X x1 y1 x2 y2 ar ac t.val).1 = 1#1 then (d ⟨q.val, hlt⟩).out else 0) = rank d Keep q := by
    unfold rank
    by_cases h : Keep q.val
    · rw [if_pos h]; exact if_pos (hh.mpr h)
    · rw [if_neg h]; exact if_neg fun c => h (hh.mp c)
  rw [← b4] at hr4
  show outRow X (marksAt X x1 y1 x2 y2 ar ac t.val) (ix2 0 k) = _
  rw [outRow_eq, rowAt_ix, rowAt_ix, rowAt_ix]
  simp only [hm]
  rw [hr4, b5]
  fin_cases k
  · exact b0
  · exact b1
  · exact b2
  · exact b3
  · rfl
  · rfl
  · rfl
  · rfl

end

end Cert.Proof.Final
-- ==== Proof.KerFinal.lean ====
module

public import proofs.«01_k».proof.Proof.NmsEq
public import proofs.«01_k».proof.Proof.KernelRun

/-! What the kernel's two results hold, in terms of its candidates. -/

@[expose] public section

set_option maxRecDepth 16384

noncomputable section

namespace Cert.Proof.Final

open Cert.KernelIdeal Cert.KernelIdeal.Gen
open Idealize.ShloMosaic Idealize.ShloMosaic.TcCoe Idealize.ShloMosaic.Tactic Idealize.ShloMosaic.StableHlo Idealize.SL.Sem
open Cert.Proof.Select Cert.Proof.Table Cert.Proof.Run Cert.Proof.Ker

/-- A truth word read as a float is positive exactly when it is true. -/
theorem flag_pos (b : BitVec 1) : (0 : EReal) < FloatOps.uitofp (F := Ideal) .f32 b ↔ b = 1#1 := by
  rw [show FloatOps.uitofp (F := Ideal) .f32 b = ((b.toNat : ℝ) : EReal) from rfl]
  have hb : b = 0#1 ∨ b = 1#1 := by revert b; decide
  rcases hb with rfl | rfl
  · simp
  · simp

section Packed
variable (V : Valuation τ sig (Elt Ideal))

/-- The contents that the second call reads hold the candidates. -/
theorem holds : Holds (candOf V) (packed V (Proc.devRef .tc main_v167)) (packed V (Proc.devRef .tc main_v169)) (packed V (Proc.devRef .tc main_v171))
    (packed V (Proc.devRef .tc main_v173)) (packed V (Proc.devRef .tc main_v175)) (packed V (Proc.devRef .tc main_v177))
    (packed V (Proc.devRef .tc main_v180)) := by
  have hc := fun p => column_read (padded (after hostOps1_16 V)) p
  have hp := fun p => padded_read V p
  have hl : ∀ i : S8x128.Idx, i = ix2 (i 0) (i 1) := fun i => by funext a; fin_cases a <;> rfl
  refine ⟨fun p => ?_, fun p => ?_, fun p => ?_, fun i => ?_, fun i => ?_⟩
  · obtain ⟨⟨a0, a1, a2, a3⟩, -, -⟩ := hc p
    obtain ⟨⟨b0, b1, b2, b3⟩, -, -⟩ := hp p
    rw [packed_table]
    exact ⟨a0.trans b0, a1.trans b1, a2.trans b2, a3.trans b3⟩
  · obtain ⟨-, ⟨a0, a1, a2, a3⟩, -⟩ := hc p
    obtain ⟨-, ⟨b0, b1, b2, b3⟩, -⟩ := hp p
    rw [packed_table]
    exact ⟨a0.trans b0, a1.trans b1, a2.trans b2, a3.trans b3⟩
  · obtain ⟨-, -, a0, a1, a2⟩ := hc p
    obtain ⟨-, -, b0, b1, b2⟩ := hp p
    rw [packed_table]
    exact ⟨a0.trans b0, a1.trans b1, a2.trans b2⟩
  · obtain ⟨a0, a1, a2, a3, a4, -⟩ := packed_plane V (i 0) (i 1)
    rw [hl i]
    exact ⟨a0, a1, a2, a3, a4⟩
  · obtain ⟨-, -, -, -, -, a5⟩ := packed_plane V (i 0) (i 1)
    rw [hl i]
    refine (iff_of_eq (congrArg (fun z : EReal => 0 < z) a5)).trans ?_
    change 0 < ext0 _ (posOf (ix2 (i 0) (i 1))) ↔ _
    unfold ext0
    by_cases h : posOf (ix2 (i 0) (i 1)) < 1000
    · rw [dif_pos h, flag_pos, ok_read]
      exact ⟨fun h' => ⟨h, h'⟩, fun ⟨_, h'⟩ => h'⟩
    · rw [dif_neg h]
      exact ⟨fun h' => absurd h' (lt_irrefl _), fun ⟨h', _⟩ => absurd h' h⟩

end Packed

/-- The first call leaves the scores, class by location. -/
theorem scores_read (v0 : S80x20480.Idx → EReal) (v1 : S1x20480.Idx → EReal) (x3 : S1x80x128x160.Idx → EReal) (x1 : S1x1x128x160.Idx → EReal)
    (h0 : ∀ k l, v0 (ix2 k l) = atLoc x3 k l) (h1 : ∀ l, v1 (ix2 0 l) = atLoc x1 0 l) (k : Fin 80) (l : Fin 20480) :
    k0_pay1 (F := Ideal) v0 v1 (ix2 k l) = score x3 x1 (ix2 l k) := by
  unfold k0_pay1
  pointwise
  rw [h0, h1]
  rfl

section Run
variable (m : (ℓ : Loc nD τ sig) → Buf (Elt Ideal) ℓ) (c : Dev nD)

/-- The scores, from the arguments. -/
def kerScore : Fin 1638400 → EReal :=
  flat (score (m ((c.tc : Thread nD τ).loc main_arg3)) (m ((c.tc : Thread nD τ).loc main_arg1)))

/-- The candidates, from the arguments. -/
def kerCands (i : Fin 1000) : Cand := kerCand (m ((c.tc : Thread nD τ).loc main_arg0)) (kerScore m c) i

/-- The first call's two arrays are the class argument and the centerness argument by location. -/
theorem entry_planes (V : Valuation τ sig (Elt Ideal)) :
    (∀ k l, after hostOps0 V (Proc.devRef .tc main_v0) (ix2 k l) = atLoc (V (Proc.devRef .tc main_arg3)) k l) ∧
    ∀ l, after hostOps0 V (Proc.devRef .tc main_v1) (ix2 0 l) = atLoc (V (Proc.devRef .tc main_arg1)) 0 l := by
  constructor
  · intro k l
    after_reads_simp
    pointwise
    rfl
  · intro l
    after_reads_simp
    pointwise
    rfl

/-- The candidates that the run decodes are those of the arguments. -/
theorem cands_read : candOf (decoded (cells (after hostOps1 (V2 m (fun _ => outA m) c)))) = kerCands m c := by
  funext i
  have h : ∀ k l, V2 m (fun _ => outA m) c (Proc.devRef .tc main_v2) (ix2 k l)
      = score (m ((c.tc : Thread nD τ).loc main_arg3)) (m ((c.tc : Thread nD τ).loc main_arg1)) (ix2 l k) := by
    intro k l
    have e : V2 m (fun _ => outA m) c (Proc.devRef .tc main_v2) = resA (VA m) c :=
      (Function.update_self ..).trans (pickRef_self main_v2 _ c)
    rw [e]
    exact scores_read _ _ _ _ (entry_planes (V0 m c)).1 (entry_planes (V0 m c)).2 k l
  have h0 : V2 m (fun _ => outA m) c (Proc.devRef .tc main_arg0) = m ((c.tc : Thread nD τ).loc main_arg0) :=
    (V2_of m _ c main_arg0 (by decide)).trans (V1_of m c main_arg0 (by decide))
  rw [cand_eq _ _ h i, h0]
  rfl

/-- The second call's result holds the best hundred of what the sweep keeps. -/
theorem second_read (Keep : ℕ → Prop)
    (hK : NmsMath.IsKeep 1000 (fun p => ∃ h : p < 1000, (kerCands m c ⟨p, h⟩).ok)
      (fun p q => ∃ (h : p < 1000) (h' : q < 1000),
        Ideal.ofBits .f32 0x3F19999A#32 < (kerCands m c ⟨p, h⟩).meet (kerCands m c ⟨q, h'⟩)) Keep) (t : Fin 100) (k : Fin 8) :
    resB (VB m) c (ix2 t k) =
      if k.val = 0 then (kerCands m c (Ref.top (rank (kerCands m c) Keep) t)).x1
      else if k.val = 1 then (kerCands m c (Ref.top (rank (kerCands m c) Keep) t)).y1
      else if k.val = 2 then (kerCands m c (Ref.top (rank (kerCands m c) Keep) t)).x2
      else if k.val = 3 then (kerCands m c (Ref.top (rank (kerCands m c) Keep) t)).y2
      else if k.val = 4 then rank (kerCands m c) Keep (Ref.top (rank (kerCands m c) Keep) t)
      else if k.val = 5 then FloatOps.sitofp (F := Ideal) .f32 (kerCands m c (Ref.top (rank (kerCands m c) Keep) t)).l else 0 := by
  have H := holds (decoded (cells (after hostOps1 (V2 m (fun _ => outA m) c))))
  rw [cands_read] at H
  have hs : ∀ i j : Fin 1000, i < j → (kerCands m c j).s ≤ (kerCands m c i).s := fun i j h => place_order (kerScore m c) i j h
  exact H.rows hs Keep hK t k

/-- The kernel's two results, from the second call's. -/
theorem last_read (V : Valuation τ sig (Elt Ideal)) (t : Fin 100) :
    (∀ k : Fin 5, after hostOps2 V (Proc.devRef .tc main_v182) (ix2 t k) = V (Proc.devRef .tc main_v181) (ix2 t ⟨k.val, by omega⟩)) ∧
    after hostOps2 V (Proc.devRef .tc main_v185) (ix1 t) = Ideal.fptosi 32 (V (Proc.devRef .tc main_v181) (ix2 t 5)) := by
  constructor
  · intro k
    after_reads_simp
    pointwise
  · after_reads_simp
    pointwise
    rfl

/-- The two results of the run, from the second call's result. -/
theorem results_read (t : Fin 100) :
    (∀ k : Fin 5, V55 m (outsF m) c (Proc.devRef .tc main_v182) (ix2 t k) = resB (VB m) c (ix2 t ⟨k.val, by omega⟩)) ∧
    V55 m (outsF m) c (Proc.devRef .tc main_v185) (ix1 t) = Ideal.fptosi 32 (resB (VB m) c (ix2 t 5)) := by
  have e : V54 m (outsF m) c (Proc.devRef .tc main_v181) = resB (VB m) c :=
    (Function.update_self ..).trans (pickRef_self main_v181 (fun c => resB (VB m) c) c)
  have h := last_read (V54 m (outsF m) c) t
  rw [e] at h
  exact h

end Run

end Cert.Proof.Final

end
-- ==== Proof.Algebraic.lean ====
module

public import proofs.«01_k».proof.Proof.Anchors
public import proofs.«01_k».proof.Proof.KerFinal
public import proofs.«01_k».proof.Proof.Frames

/-! The idealized kernel's results are the reference's, on anchors that lie on the grid. -/

@[expose] public section

set_option maxRecDepth 16384

noncomputable section

namespace Cert.Proof.Final

open Idealize.ShloMosaic Idealize.ShloMosaic.TcCoe Idealize.ShloMosaic.Tactic Idealize.ShloMosaic.StableHlo Idealize.SL.Sem
open Cert.Proof.Select Cert.Proof.Table Cert.Proof.Run
open Cert.ReferenceIdeal.Value (condOps preI bodyI postI)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two memories agree on the arguments of a device. -/
def Agree : Prop :=
  m' ((c.tc : Thread Cert.ReferenceIdeal.nD Cert.ReferenceIdeal.τ).loc Cert.ReferenceIdeal.main_arg0)
    = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1)
    = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2)
    = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3)
    = m ((c.tc : Thread Cert.KernelIdeal.nD Cert.KernelIdeal.τ).loc Cert.KernelIdeal.main_arg3)

variable {m m' c}

/-- The two programs have the same candidates. -/
theorem same_cands (hpre : Cert.Pre_KernelIdeal_anchors_on_grid m) (h : Agree m m' c) : Ref.cands m' c = kerCands m c := by
  obtain ⟨h0, h1, h2, h3⟩ := h
  obtain ⟨⟨e1, e2⟩, e3, e4⟩ := Anchors.same_anchors _ _ _ _ (hpre c)
  rw [← h2] at e1 e2 e3 e4
  have hf : Ref.refScore (launchContents m' c) = kerScore m c := by
    change flat (score (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg1))) = _
    rw [h1, h3]
    rfl
  funext i
  change candAt (m' ((c.tc : Thread Cert.ReferenceIdeal.nD Cert.ReferenceIdeal.τ).loc Cert.ReferenceIdeal.main_arg0)) (Ref.refScore (launchContents m' c))
    (Ref.ancW (m' ((c.tc : Thread Cert.ReferenceIdeal.nD Cert.ReferenceIdeal.τ).loc Cert.ReferenceIdeal.main_arg2)) 0 2)
    (Ref.ancC (m' ((c.tc : Thread Cert.ReferenceIdeal.nD Cert.ReferenceIdeal.τ).loc Cert.ReferenceIdeal.main_arg2)) 0 2)
    (Ref.ancW (m' ((c.tc : Thread Cert.ReferenceIdeal.nD Cert.ReferenceIdeal.τ).loc Cert.ReferenceIdeal.main_arg2)) 1 3)
    (Ref.ancC (m' ((c.tc : Thread Cert.ReferenceIdeal.nD Cert.ReferenceIdeal.τ).loc Cert.ReferenceIdeal.main_arg2)) 1 3)
    (place (Ref.refScore (launchContents m' c)) i) = _
  rw [e1, e2, e3, e4, hf, h0]
  rfl

/-- What the reference keeps is what the sweep over the kernel's candidates keeps, and it ranks by the same values. -/
theorem same_sweep (e : Ref.cands m' c = kerCands m c) :
    NmsMath.IsKeep 1000 (fun p => ∃ h : p < 1000, (kerCands m c ⟨p, h⟩).ok)
      (fun p q => ∃ (h : p < 1000) (h' : q < 1000),
        Ideal.ofBits .f32 0x3F19999A#32 < (kerCands m c ⟨p, h⟩).meet (kerCands m c ⟨q, h'⟩)) (Ref.keeps m' c) ∧
    Ref.rankVal m' c = rank (kerCands m c) (Ref.keeps m' c) := by
  rw [← e]
  exact ⟨Ref.keeps_isKeep m' c, rfl⟩

/-- The boxes with their scores, and the labels, at the end. -/
theorem same_row (hpre : Cert.Pre_KernelIdeal_anchors_on_grid m) (h : Agree m m' c) (t : Fin 100) :
    (∀ k : Fin 5, finalContents condOps preI bodyI postI 1000 m' c (Proc.devRef .tc Cert.ReferenceIdeal.main_v229) (ix2 t k)
      = Cert.KernelIdeal.Gen.V55 m (outsF m) c (Proc.devRef .tc Cert.KernelIdeal.main_v182) (ix2 t k)) ∧
    finalContents condOps preI bodyI postI 1000 m' c (Proc.devRef .tc Cert.ReferenceIdeal.main_v227) (ix1 t)
      = Cert.KernelIdeal.Gen.V55 m (outsF m) c (Proc.devRef .tc Cert.KernelIdeal.main_v185) (ix1 t) := by
  have e := same_cands hpre h
  obtain ⟨hK, hR⟩ := same_sweep e
  obtain ⟨b, s, l⟩ := Ref.final_read m' c t
  obtain ⟨kb, kl⟩ := results_read m c t
  have hk := second_read m c (Ref.keeps m' c) hK t
  obtain ⟨x1, y1, x2, y2, -⟩ := Ref.start_box (launchContents m' c) (Ref.top (Ref.rankVal m' c) t)
  rw [← hR] at hk
  have e' : ∀ i, Ref.refCand (launchContents m' c) i = kerCands m c i := fun i => congrFun e i
  rw [e'] at x1 y1 x2 y2
  constructor
  · intro k
    refine Eq.trans ?_ (kb k).symm
    refine Eq.trans ?_ (hk ⟨k.val, by omega⟩).symm
    match k with
    | 0 => exact (b 0).trans x1
    | 1 => exact (b 1).trans y1
    | 2 => exact (b 2).trans x2
    | 3 => exact (b 3).trans y2
    | 4 => exact s
  · refine Eq.trans ?_ kl.symm
    rw [l, hk 5]
    refine (congrArg Cand.l (e' _)).trans ?_
    exact (label_back _ (Nat.mod_lt _ (by decide))).symm

/-- The two results of the two programs are equal. -/
theorem same_results (hpre : Cert.Pre_KernelIdeal_anchors_on_grid m) (h : Agree m m' c) :
    finalContents condOps preI bodyI postI 1000 m' c (Proc.devRef .tc Cert.ReferenceIdeal.main_v229)
      = Cert.KernelIdeal.Gen.V55 m (outsF m) c (Proc.devRef .tc Cert.KernelIdeal.main_v182) ∧
    finalContents condOps preI bodyI postI 1000 m' c (Proc.devRef .tc Cert.ReferenceIdeal.main_v227)
      = Cert.KernelIdeal.Gen.V55 m (outsF m) c (Proc.devRef .tc Cert.KernelIdeal.main_v185) := by
  constructor
  · funext q
    have hq : q = ix2 (q 0) (q 1) := by funext a; fin_cases a <;> rfl
    rw [hq]
    exact (same_row hpre h (q 0)).1 (q 1)
  · funext q
    have hq : q = ix1 (q 0) := by funext a; fin_cases a; rfl
    rw [hq]
    exact (same_row hpre h (q 0)).2

end

open Cert.KernelIdeal Cert.KernelIdeal.Gen in
/-- The idealized kernel's run: its two results and its unchanged arguments. -/
theorem run_kernel (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v182) = V55 m (outsF m) c (Proc.devRef .tc main_v182)
      ∧ r.2.mem ((c.tc : Thread nD τ).loc main_v185) = V55 m (outsF m) c (Proc.devRef .tc main_v185)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (run_final m g).mono fun r h c => ?_
  have at' := fun (b : Ref sig .tc) (hb : ¬ (Proc.devRef .tc b : DevRef τ sig).isScoped = true) =>
    h.1 c (Proc.devRef .tc b) (Finset.mem_filter.mpr ⟨StableHlo.devRef_mem_tcRefs b, hb⟩)
  exact ⟨at' main_v182 (by decide), at' main_v185 (by decide), (at' main_arg0 (by decide)).trans (V55_main_arg0 m _ c),
      (at' main_arg1 (by decide)).trans (V55_main_arg1 m _ c), (at' main_arg2 (by decide)).trans (V55_main_arg2 m _ c),
      (at' main_arg3 (by decide)).trans (V55_main_arg3 m _ c)⟩

/-- From memories that agree on the arguments, with the anchors on the grid, the idealized kernel and the reference end with equal results. -/
theorem algebraic : Cert.algebraic_KernelIdeal_ReferenceIdeal_pre_anchors_on_grid := fun m g m' g' hpre hargs =>
  ⟨fun c => Cert.KernelIdeal.Gen.V55 m (outsF m) c (Proc.devRef .tc Cert.KernelIdeal.main_v182),
    fun c => Cert.KernelIdeal.Gen.V55 m (outsF m) c (Proc.devRef .tc Cert.KernelIdeal.main_v185),
    run_kernel m g,
    (Cert.ReferenceIdeal.Value.run_fold m' g').mono fun r h c =>
      ⟨(h c Cert.ReferenceIdeal.main_v229 (by decide)).trans (same_results hpre (hargs c)).1,
        (h c Cert.ReferenceIdeal.main_v227 (by decide)).trans (same_results hpre (hargs c)).2,
        (h c Cert.ReferenceIdeal.main_arg0 (by decide)).trans (Ref.final_arg m' c _ (by simp)),
        (h c Cert.ReferenceIdeal.main_arg1 (by decide)).trans (Ref.final_arg m' c _ (by simp)),
        (h c Cert.ReferenceIdeal.main_arg2 (by decide)).trans (Ref.final_arg m' c _ (by simp)),
        (h c Cert.ReferenceIdeal.main_arg3 (by decide)).trans (Ref.final_arg m' c _ (by simp))⟩⟩

end Cert.Proof.Final

end
-- ==== Proof.lean ====
/-
  The certificate: the frames of the kernel, of its idealization and of the reference, the preservation, and the equality of
  the idealized kernel's results with the reference's.
-/
module

public import proofs.«01_k».proof.Proof.Frames
public import proofs.«01_k».proof.Proof.RefRun
public import proofs.«01_k».proof.Proof.Algebraic

@[expose] public section

noncomputable section

namespace Cert.Proof

/-- Everything the certificate claims. -/
theorem claim : Cert.Claim :=
  ⟨Cert.Kernel.Gen.facts, Cert.KernelIdeal.Gen.facts, Cert.ReferenceIdeal.Gen.facts, Anchors.facts,
    frame_Kernel, frame_KernelIdeal, fun m g _ => frameF m g, Ref.frame_ReferenceIdeal, fun m g _ => Ref.frame_ReferenceIdeal m g trivial,
    trivial, Final.algebraic⟩

end Cert.Proof

end
